-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x4 : Shape := ⟨3, ![16, 128, 4]⟩
abbrev S8192 : Shape := ⟨1, ![8192]⟩
abbrev S16x6144x128 : Shape := ⟨3, ![16, 6144, 128]⟩
abbrev S512 : Shape := ⟨1, ![512]⟩
abbrev S3x128x128 : Shape := ⟨3, ![3, 128, 128]⟩
abbrev S_ : Shape := ⟨0, ![]⟩
abbrev S16 : Shape := ⟨1, ![16]⟩
abbrev S1x1x16 : Shape := ⟨3, ![1, 1, 16]⟩
abbrev S1x128x128 : Shape := ⟨3, ![1, 128, 128]⟩
abbrev S128x128 : Shape := ⟨2, ![128, 128]⟩

abbrev nBuf : Table → Nat
  | .hbm => 3
  | .local .scVector .vmem => 3
  | _ => 0

abbrev bufTy : (tb : Table) → Fin (nBuf tb) → BufTy
  | .hbm, ⟨0, _⟩ => ⟨S16x128x4, .i32⟩
  | .hbm, ⟨1, _⟩ => ⟨S8192, .i32⟩
  | .hbm, ⟨2, _⟩ => ⟨S16x6144x128, .f32⟩
  | .local .scVector .vmem, ⟨0, _⟩ => ⟨S512, .i32⟩
  | .local .scVector .vmem, ⟨1, _⟩ => ⟨S3x128x128, .f32⟩
  | .local .scVector .vmem, ⟨2, _⟩ => ⟨S3x128x128, .f32⟩
  | _, _ => ⟨S16x128x4, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c128_i32 : BitVec 32 := 128#32
  let v3 : BitVec 32 := Scalar.muli arg1 c128_i32
  let c4_i32 : BitVec 32 := 4#32
  let v4 : BitVec 32 := Scalar.muli v3 c4_i32
  ![v4.toNat]
@[reducible] def k0_t1_loop : Scf.Loop 32 :=
  let c0_i32_1 : BitVec 32 := 0#32
  let c128_i32_2 : BitVec 32 := 128#32
  let v7 : BitVec 32 := Scalar.addi c0_i32_1 c128_i32_2
  let c1_i32 : BitVec 32 := 1#32
  ⟨c0_i32_1, v7, c1_i32⟩
def k0_off2 (k0_t1 : Fin k0_t1_loop.trips) : Fin 3 → Nat :=
  let c0_i32_57 : BitVec 32 := 0#32
  let v73 : Index := Scalar.indexCast c0_i32_57
  let c0_i32_1 : BitVec 32 := 0#32
  let c1_i32 : BitVec 32 := 1#32
  let arg10 : BitVec 32 := Scf.iv c0_i32_1 c1_i32 k0_t1
  let v74 : Index := Scalar.indexCast arg10
  let c0 : Index := 0#32
  ![0, v74.toNat, 0]
def k0_off3 (k0_t1 : Fin k0_t1_loop.trips) : Fin 3 → Nat :=
  let c0_i32_58 : BitVec 32 := 0#32
  let v76 : Index := Scalar.indexCast c0_i32_58
  let c0_i32_1 : BitVec 32 := 0#32
  let c1_i32 : BitVec 32 := 1#32
  let arg10 : BitVec 32 := Scf.iv c0_i32_1 c1_i32 k0_t1
  let v77 : Index := Scalar.indexCast arg10
  let c16 : Index := 16#32
  ![0, v77.toNat, 16]
def k0_off4 (k0_t1 : Fin k0_t1_loop.trips) : Fin 3 → Nat :=
  let c0_i32_59 : BitVec 32 := 0#32
  let v79 : Index := Scalar.indexCast c0_i32_59
  let c0_i32_1 : BitVec 32 := 0#32
  let c1_i32 : BitVec 32 := 1#32
  let arg10 : BitVec 32 := Scf.iv c0_i32_1 c1_i32 k0_t1
  let v80 : Index := Scalar.indexCast arg10
  let c32 : Index := 32#32
  ![0, v80.toNat, 32]
def k0_off5 (k0_t1 : Fin k0_t1_loop.trips) : Fin 3 → Nat :=
  let c0_i32_60 : BitVec 32 := 0#32
  let v82 : Index := Scalar.indexCast c0_i32_60
  let c0_i32_1 : BitVec 32 := 0#32
  let c1_i32 : BitVec 32 := 1#32
  let arg10 : BitVec 32 := Scf.iv c0_i32_1 c1_i32 k0_t1
  let v83 : Index := Scalar.indexCast arg10
  let c48 : Index := 48#32
  ![0, v83.toNat, 48]
def k0_off6 (k0_t1 : Fin k0_t1_loop.trips) : Fin 3 → Nat :=
  let c0_i32_61 : BitVec 32 := 0#32
  let v85 : Index := Scalar.indexCast c0_i32_61
  let c0_i32_1 : BitVec 32 := 0#32
  let c1_i32 : BitVec 32 := 1#32
  let arg10 : BitVec 32 := Scf.iv c0_i32_1 c1_i32 k0_t1
  let v86 : Index := Scalar.indexCast arg10
  let c64 : Index := 64#32
  ![0, v86.toNat, 64]
def k0_off7 (k0_t1 : Fin k0_t1_loop.trips) : Fin 3 → Nat :=
  let c0_i32_62 : BitVec 32 := 0#32
  let v88 : Index := Scalar.indexCast c0_i32_62
  let c0_i32_1 : BitVec 32 := 0#32
  let c1_i32 : BitVec 32 := 1#32
  let arg10 : BitVec 32 := Scf.iv c0_i32_1 c1_i32 k0_t1
  let v89 : Index := Scalar.indexCast arg10
  let c80 : Index := 80#32
  ![0, v89.toNat, 80]
def k0_off8 (k0_t1 : Fin k0_t1_loop.trips) : Fin 3 → Nat :=
  let c0_i32_63 : BitVec 32 := 0#32
  let v91 : Index := Scalar.indexCast c0_i32_63
  let c0_i32_1 : BitVec 32 := 0#32
  let c1_i32 : BitVec 32 := 1#32
  let arg10 : BitVec 32 := Scf.iv c0_i32_1 c1_i32 k0_t1
  let v92 : Index := Scalar.indexCast arg10
  let c96 : Index := 96#32
  ![0, v92.toNat, 96]
def k0_off9 (k0_t1 : Fin k0_t1_loop.trips) : Fin 3 → Nat :=
  let c0_i32_64 : BitVec 32 := 0#32
  let v94 : Index := Scalar.indexCast c0_i32_64
  let c0_i32_1 : BitVec 32 := 0#32
  let c1_i32 : BitVec 32 := 1#32
  let arg10 : BitVec 32 := Scf.iv c0_i32_1 c1_i32 k0_t1
  let v95 : Index := Scalar.indexCast arg10
  let c112 : Index := 112#32
  ![0, v95.toNat, 112]
def k0_off10 (k0_t1 : Fin k0_t1_loop.trips) : Fin 3 → Nat :=
  let c1_i32_65 : BitVec 32 := 1#32
  let v97 : Index := Scalar.indexCast c1_i32_65
  let c0_i32_1 : BitVec 32 := 0#32
  let c1_i32 : BitVec 32 := 1#32
  let arg10 : BitVec 32 := Scf.iv c0_i32_1 c1_i32 k0_t1
  let v98 : Index := Scalar.indexCast arg10
  let c0_66 : Index := 0#32
  ![1, v98.toNat, 0]
def k0_off11 (k0_t1 : Fin k0_t1_loop.trips) : Fin 3 → Nat :=
  let c1_i32_67 : BitVec 32 := 1#32
  let v100 : Index := Scalar.indexCast c1_i32_67
  let c0_i32_1 : BitVec 32 := 0#32
  let c1_i32 : BitVec 32 := 1#32
  let arg10 : BitVec 32 := Scf.iv c0_i32_1 c1_i32 k0_t1
  let v101 : Index := Scalar.indexCast arg10
  let c16_68 : Index := 16#32
  ![1, v101.toNat, 16]
def k0_off12 (k0_t1 : Fin k0_t1_loop.trips) : Fin 3 → Nat :=
  let c1_i32_69 : BitVec 32 := 1#32
  let v103 : Index := Scalar.indexCast c1_i32_69
  let c0_i32_1 : BitVec 32 := 0#32
  let c1_i32 : BitVec 32 := 1#32
  let arg10 : BitVec 32 := Scf.iv c0_i32_1 c1_i32 k0_t1
  let v104 : Index := Scalar.indexCast arg10
  let c32_70 : Index := 32#32
  ![1, v104.toNat, 32]
def k0_off13 (k0_t1 : Fin k0_t1_loop.trips) : Fin 3 → Nat :=
  let c1_i32_71 : BitVec 32 := 1#32
  let v106 : Index := Scalar.indexCast c1_i32_71
  let c0_i32_1 : BitVec 32 := 0#32
  let c1_i32 : BitVec 32 := 1#32
  let arg10 : BitVec 32 := Scf.iv c0_i32_1 c1_i32 k0_t1
  let v107 : Index := Scalar.indexCast arg10
  let c48_72 : Index := 48#32
  ![1, v107.toNat, 48]
def k0_off14 (k0_t1 : Fin k0_t1_loop.trips) : Fin 3 → Nat :=
  let c1_i32_73 : BitVec 32 := 1#32
  let v109 : Index := Scalar.indexCast c1_i32_73
  let c0_i32_1 : BitVec 32 := 0#32
  let c1_i32 : BitVec 32 := 1#32
  let arg10 : BitVec 32 := Scf.iv c0_i32_1 c1_i32 k0_t1
  let v110 : Index := Scalar.indexCast arg10
  let c64_74 : Index := 64#32
  ![1, v110.toNat, 64]
def k0_off15 (k0_t1 : Fin k0_t1_loop.trips) : Fin 3 → Nat :=
  let c1_i32_75 : BitVec 32 := 1#32
  let v112 : Index := Scalar.indexCast c1_i32_75
  let c0_i32_1 : BitVec 32 := 0#32
  let c1_i32 : BitVec 32 := 1#32
  let arg10 : BitVec 32 := Scf.iv c0_i32_1 c1_i32 k0_t1
  let v113 : Index := Scalar.indexCast arg10
  let c80_76 : Index := 80#32
  ![1, v113.toNat, 80]
def k0_off16 (k0_t1 : Fin k0_t1_loop.trips) : Fin 3 → Nat :=
  let c1_i32_77 : BitVec 32 := 1#32
  let v115 : Index := Scalar.indexCast c1_i32_77
  let c0_i32_1 : BitVec 32 := 0#32
  let c1_i32 : BitVec 32 := 1#32
  let arg10 : BitVec 32 := Scf.iv c0_i32_1 c1_i32 k0_t1
  let v116 : Index := Scalar.indexCast arg10
  let c96_78 : Index := 96#32
  ![1, v116.toNat, 96]
def k0_off17 (k0_t1 : Fin k0_t1_loop.trips) : Fin 3 → Nat :=
  let c1_i32_79 : BitVec 32 := 1#32
  let v118 : Index := Scalar.indexCast c1_i32_79
  let c0_i32_1 : BitVec 32 := 0#32
  let c1_i32 : BitVec 32 := 1#32
  let arg10 : BitVec 32 := Scf.iv c0_i32_1 c1_i32 k0_t1
  let v119 : Index := Scalar.indexCast arg10
  let c112_80 : Index := 112#32
  ![1, v119.toNat, 112]
def k0_off18 (k0_t1 : Fin k0_t1_loop.trips) : Fin 3 → Nat :=
  let c2_i32_81 : BitVec 32 := 2#32
  let v121 : Index := Scalar.indexCast c2_i32_81
  let c0_i32_1 : BitVec 32 := 0#32
  let c1_i32 : BitVec 32 := 1#32
  let arg10 : BitVec 32 := Scf.iv c0_i32_1 c1_i32 k0_t1
  let v122 : Index := Scalar.indexCast arg10
  let c0_82 : Index := 0#32
  ![2, v122.toNat, 0]
def k0_off19 (k0_t1 : Fin k0_t1_loop.trips) : Fin 3 → Nat :=
  let c2_i32_83 : BitVec 32 := 2#32
  let v124 : Index := Scalar.indexCast c2_i32_83
  let c0_i32_1 : BitVec 32 := 0#32
  let c1_i32 : BitVec 32 := 1#32
  let arg10 : BitVec 32 := Scf.iv c0_i32_1 c1_i32 k0_t1
  let v125 : Index := Scalar.indexCast arg10
  let c16_84 : Index := 16#32
  ![2, v125.toNat, 16]
def k0_off20 (k0_t1 : Fin k0_t1_loop.trips) : Fin 3 → Nat :=
  let c2_i32_85 : BitVec 32 := 2#32
  let v127 : Index := Scalar.indexCast c2_i32_85
  let c0_i32_1 : BitVec 32 := 0#32
  let c1_i32 : BitVec 32 := 1#32
  let arg10 : BitVec 32 := Scf.iv c0_i32_1 c1_i32 k0_t1
  let v128 : Index := Scalar.indexCast arg10
  let c32_86 : Index := 32#32
  ![2, v128.toNat, 32]
def k0_off21 (k0_t1 : Fin k0_t1_loop.trips) : Fin 3 → Nat :=
  let c2_i32_87 : BitVec 32 := 2#32
  let v130 : Index := Scalar.indexCast c2_i32_87
  let c0_i32_1 : BitVec 32 := 0#32
  let c1_i32 : BitVec 32 := 1#32
  let arg10 : BitVec 32 := Scf.iv c0_i32_1 c1_i32 k0_t1
  let v131 : Index := Scalar.indexCast arg10
  let c48_88 : Index := 48#32
  ![2, v131.toNat, 48]
def k0_off22 (k0_t1 : Fin k0_t1_loop.trips) : Fin 3 → Nat :=
  let c2_i32_89 : BitVec 32 := 2#32
  let v133 : Index := Scalar.indexCast c2_i32_89
  let c0_i32_1 : BitVec 32 := 0#32
  let c1_i32 : BitVec 32 := 1#32
  let arg10 : BitVec 32 := Scf.iv c0_i32_1 c1_i32 k0_t1
  let v134 : Index := Scalar.indexCast arg10
  let c64_90 : Index := 64#32
  ![2, v134.toNat, 64]
def k0_off23 (k0_t1 : Fin k0_t1_loop.trips) : Fin 3 → Nat :=
  let c2_i32_91 : BitVec 32 := 2#32
  let v136 : Index := Scalar.indexCast c2_i32_91
  let c0_i32_1 : BitVec 32 := 0#32
  let c1_i32 : BitVec 32 := 1#32
  let arg10 : BitVec 32 := Scf.iv c0_i32_1 c1_i32 k0_t1
  let v137 : Index := Scalar.indexCast arg10
  let c80_92 : Index := 80#32
  ![2, v137.toNat, 80]
def k0_off24 (k0_t1 : Fin k0_t1_loop.trips) : Fin 3 → Nat :=
  let c2_i32_93 : BitVec 32 := 2#32
  let v139 : Index := Scalar.indexCast c2_i32_93
  let c0_i32_1 : BitVec 32 := 0#32
  let c1_i32 : BitVec 32 := 1#32
  let arg10 : BitVec 32 := Scf.iv c0_i32_1 c1_i32 k0_t1
  let v140 : Index := Scalar.indexCast arg10
  let c96_94 : Index := 96#32
  ![2, v140.toNat, 96]
def k0_off25 (k0_t1 : Fin k0_t1_loop.trips) : Fin 3 → Nat :=
  let c2_i32_95 : BitVec 32 := 2#32
  let v142 : Index := Scalar.indexCast c2_i32_95
  let c0_i32_1 : BitVec 32 := 0#32
  let c1_i32 : BitVec 32 := 1#32
  let arg10 : BitVec 32 := Scf.iv c0_i32_1 c1_i32 k0_t1
  let v143 : Index := Scalar.indexCast arg10
  let c112_96 : Index := 112#32
  ![2, v143.toNat, 112]
@[reducible] def k0_t2_loop : Scf.Loop 32 :=
  let c0_i32_5 : BitVec 32 := 0#32
  let c8_i32 : BitVec 32 := 8#32
  let v11 : BitVec 32 := Scalar.addi c0_i32_5 c8_i32
  let c1_i32_6 : BitVec 32 := 1#32
  ⟨c0_i32_5, v11, c1_i32_6⟩
def k0_cond1 (k0_t2 : Fin k0_t2_loop.trips) : BitVec 1 :=
  let c0_i32_5 : BitVec 32 := 0#32
  let c1_i32_6 : BitVec 32 := 1#32
  let arg10 : BitVec 32 := Scf.iv c0_i32_5 c1_i32_6 k0_t2
  let c2_i32_59 : BitVec 32 := 2#32
  let v76 : BitVec 32 := Scalar.remsi arg10 c2_i32_59
  let c0_i32_60 : BitVec 32 := 0#32
  let v77 : BitVec 1 := Scalar.cmpi .eq v76 c0_i32_60
  let v78 : BitVec 32 := Scalar.extui v77
  let c0_i32_61 : BitVec 32 := 0#32
  let v79 : BitVec 1 := Scalar.cmpi .ne v78 c0_i32_61
  v79

def k0_cond2 (k0_t2 : Fin k0_t2_loop.trips) : BitVec 1 :=
  let c0_i32_5 : BitVec 32 := 0#32
  let c1_i32_6 : BitVec 32 := 1#32
  let arg10 : BitVec 32 := Scf.iv c0_i32_5 c1_i32_6 k0_t2
  let c2_i32_66 : BitVec 32 := 2#32
  let v84 : BitVec 1 := Scalar.cmpi .sge arg10 c2_i32_66
  let v85 : BitVec 32 := Scalar.extui v84
  let c0_i32_67 : BitVec 32 := 0#32
  let v86 : BitVec 1 := Scalar.cmpi .ne v85 c0_i32_67
  v86

def k0_off26 (i : grid0.Coords) (k0_t2 : Fin k0_t2_loop.trips) (c0_i32_97 : BitVec 32) : Fin 3 → Nat :=
  let arg1 : BitVec 32 := BitVec.ofNat 32 (i 1).val
  let arg0 : BitVec 32 := BitVec.ofNat 32 (i 0).val
  let c8_i32_57 : BitVec 32 := 8#32
  let v73 : BitVec 32 := Scalar.muli arg0 c8_i32_57
  let c0_i32_5 : BitVec 32 := 0#32
  let c1_i32_6 : BitVec 32 := 1#32
  let arg10 : BitVec 32 := Scf.iv c0_i32_5 c1_i32_6 k0_t2
  let v74 : BitVec 32 := Scalar.addi v73 arg10
  let c128_i32_58 : BitVec 32 := 128#32
  let v75 : BitVec 32 := Scalar.muli v74 c128_i32_58
  let c256_i32 : BitVec 32 := 256#32
  let v116 : BitVec 32 := Scalar.subi v75 c256_i32
  let v117 : BitVec 32 := Scalar.addi c0_i32_97 v116
  let c0_i32_101 : BitVec 32 := 0#32
  ![arg1.toNat, v117.toNat, 0]
@[reducible] def k0_t3_loop : Scf.Loop 32 :=
  let c0_i32_69 : BitVec 32 := 0#32
  let c2_i32_70 : BitVec 32 := 2#32
  let v87 : BitVec 32 := Scalar.addi c0_i32_69 c2_i32_70
  let c1_i32_71 : BitVec 32 := 1#32
  ⟨c0_i32_69, v87, c1_i32_71⟩
@[reducible] def k0_t4_loop : Scf.Loop 32 :=
  let c0_i32_104 : BitVec 32 := 0#32
  let c4_i32_105 : BitVec 32 := 4#32
  let v126 : BitVec 32 := Scalar.addi c0_i32_104 c4_i32_105
  let c1_i32_106 : BitVec 32 := 1#32
  ⟨c0_i32_104, v126, c1_i32_106⟩
@[reducible] def k0_t5_loop : Scf.Loop 32 :=
  let c0_i32_110 : BitVec 32 := 0#32
  let c8_i32_111 : BitVec 32 := 8#32
  let v130 : BitVec 32 := Scalar.addi c0_i32_110 c8_i32_111
  let c1_i32_112 : BitVec 32 := 1#32
  ⟨c0_i32_110, v130, c1_i32_112⟩

def k0_chk1 (k0_t2 : Fin k0_t2_loop.trips) (v137 : IVec S16 32) : Prop :=
  (∀ (k0_h1 : k0_cond1 k0_t2 = 1#1), ∀ a x, ((![v137] : Fin 1 → IVec S16 32) a x).toNat < S512.size a)
theorem k0_idx1_inb : ∀ (k0_t2 : Fin k0_t2_loop.trips) (v137 : IVec S16 32) (k0_hw1 : k0_chk1 k0_t2 v137), ∀ (k0_h1 : k0_cond1 k0_t2 = 1#1), ∀ a x, ((![v137] : Fin 1 → IVec S16 32) a x).toNat < S512.size a := fun k0_t2 v137 k0_hw1 k0_h1 => k0_hw1 k0_h1

def k0_chk2 (v2 : IVec S16 32) (k0_t2 : Fin k0_t2_loop.trips) (v151 : IVec S16 32) (v155 : IVec S16 32) : Prop :=
  (∀ (k0_h1 : k0_cond1 k0_t2 = 1#1), ∀ a x, ((![v2, v151, v155] : Fin 3 → IVec S16 32) a x).toNat < S3x128x128.size a)
theorem k0_idx2_inb : ∀ (v2 : IVec S16 32) (k0_t2 : Fin k0_t2_loop.trips) (v151 : IVec S16 32) (v155 : IVec S16 32) (k0_hw2 : k0_chk2 v2 k0_t2 v151 v155), ∀ (k0_h1 : k0_cond1 k0_t2 = 1#1), ∀ a x, ((![v2, v151, v155] : Fin 3 → IVec S16 32) a x).toNat < S3x128x128.size a := fun v2 k0_t2 v151 v155 k0_hw2 k0_h1 => k0_hw2 k0_h1

def k0_chk3 (k0_t2 : Fin k0_t2_loop.trips) (v134 : IVec S16 32) (v151 : IVec S16 32) (v160 : IVec S16 32) : Prop :=
  (∀ (k0_h1 : k0_cond1 k0_t2 = 1#1), ∀ a x, ((![v160, v151, v134] : Fin 3 → IVec S16 32) a x).toNat < S3x128x128.size a)
theorem k0_idx3_inb : ∀ (k0_t2 : Fin k0_t2_loop.trips) (v134 : IVec S16 32) (v151 : IVec S16 32) (v160 : IVec S16 32) (k0_hw3 : k0_chk3 k0_t2 v134 v151 v160), ∀ (k0_h1 : k0_cond1 k0_t2 = 1#1), ∀ a x, ((![v160, v151, v134] : Fin 3 → IVec S16 32) a x).toNat < S3x128x128.size a := fun k0_t2 v134 v151 v160 k0_hw3 k0_h1 => k0_hw3 k0_h1

def k0_chk4 (k0_t2 : Fin k0_t2_loop.trips) (v151 : IVec S16 32) (v162 : IVec S16 32) (v166 : IVec S16 32) : Prop :=
  (∀ (k0_h1 : k0_cond1 k0_t2 = 1#1), ∀ a x, ((![v162, v151, v166] : Fin 3 → IVec S16 32) a x).toNat < S3x128x128.size a)
theorem k0_idx4_inb : ∀ (k0_t2 : Fin k0_t2_loop.trips) (v151 : IVec S16 32) (v162 : IVec S16 32) (v166 : IVec S16 32) (k0_hw4 : k0_chk4 k0_t2 v151 v162 v166), ∀ (k0_h1 : k0_cond1 k0_t2 = 1#1), ∀ a x, ((![v162, v151, v166] : Fin 3 → IVec S16 32) a x).toNat < S3x128x128.size a := fun k0_t2 v151 v162 v166 k0_hw4 k0_h1 => k0_hw4 k0_h1
def k0_off27 (i : grid0.Coords) (k0_t2 : Fin k0_t2_loop.trips) (c0_i32_73 : BitVec 32) : Fin 3 → Nat :=
  let arg1 : BitVec 32 := BitVec.ofNat 32 (i 1).val
  let arg0 : BitVec 32 := BitVec.ofNat 32 (i 0).val
  let c8_i32_57 : BitVec 32 := 8#32
  let v73 : BitVec 32 := Scalar.muli arg0 c8_i32_57
  let c0_i32_5 : BitVec 32 := 0#32
  let c1_i32_6 : BitVec 32 := 1#32
  let arg10 : BitVec 32 := Scf.iv c0_i32_5 c1_i32_6 k0_t2
  let v74 : BitVec 32 := Scalar.addi v73 arg10
  let c128_i32_58 : BitVec 32 := 128#32
  let v75 : BitVec 32 := Scalar.muli v74 c128_i32_58
  let v89 : BitVec 32 := Scalar.addi c0_i32_73 v75
  let c0_i32_77 : BitVec 32 := 0#32
  ![arg1.toNat, v89.toNat, 0]
def k0_cond3 (k0_t2 : Fin k0_t2_loop.trips) : BitVec 1 :=
  let c0_i32_5 : BitVec 32 := 0#32
  let c1_i32_6 : BitVec 32 := 1#32
  let arg10 : BitVec 32 := Scf.iv c0_i32_5 c1_i32_6 k0_t2
  let c2_i32_62 : BitVec 32 := 2#32
  let v80 : BitVec 32 := Scalar.remsi arg10 c2_i32_62
  let c1_i32_63 : BitVec 32 := 1#32
  let v81 : BitVec 1 := Scalar.cmpi .eq v80 c1_i32_63
  let v82 : BitVec 32 := Scalar.extui v81
  let c0_i32_64 : BitVec 32 := 0#32
  let v83 : BitVec 1 := Scalar.cmpi .ne v82 c0_i32_64
  v83

def k0_cond4 (k0_t2 : Fin k0_t2_loop.trips) : BitVec 1 :=
  let c0_i32_5 : BitVec 32 := 0#32
  let c1_i32_6 : BitVec 32 := 1#32
  let arg10 : BitVec 32 := Scf.iv c0_i32_5 c1_i32_6 k0_t2
  let c1_i32_66 : BitVec 32 := 1#32
  let v84 : BitVec 1 := Scalar.cmpi .eq arg10 c1_i32_66
  let v85 : BitVec 32 := Scalar.extui v84
  let c0_i32_67 : BitVec 32 := 0#32
  let v86 : BitVec 1 := Scalar.cmpi .ne v85 c0_i32_67
  v86

@[reducible] def k0_t6_loop : Scf.Loop 32 :=
  let c0_i32_100 : BitVec 32 := 0#32
  let c128_i32_101 : BitVec 32 := 128#32
  let v119 : BitVec 32 := Scalar.addi c0_i32_100 c128_i32_101
  let c1_i32_102 : BitVec 32 := 1#32
  ⟨c0_i32_100, v119, c1_i32_102⟩
def k0_off28 (k0_t6 : Fin k0_t6_loop.trips) : Fin 3 → Nat :=
  let c0_i32_104 : BitVec 32 := 0#32
  let v121 : Index := Scalar.indexCast c0_i32_104
  let c0_i32_100 : BitVec 32 := 0#32
  let c1_i32_102 : BitVec 32 := 1#32
  let arg12 : BitVec 32 := Scf.iv c0_i32_100 c1_i32_102 k0_t6
  let v122 : Index := Scalar.indexCast arg12
  let c0 : Index := 0#32
  ![0, v122.toNat, 0]
def k0_off29 (k0_t6 : Fin k0_t6_loop.trips) : Fin 3 → Nat :=
  let c0_i32_105 : BitVec 32 := 0#32
  let v124 : Index := Scalar.indexCast c0_i32_105
  let c0_i32_100 : BitVec 32 := 0#32
  let c1_i32_102 : BitVec 32 := 1#32
  let arg12 : BitVec 32 := Scf.iv c0_i32_100 c1_i32_102 k0_t6
  let v125 : Index := Scalar.indexCast arg12
  let c16 : Index := 16#32
  ![0, v125.toNat, 16]
def k0_off30 (k0_t6 : Fin k0_t6_loop.trips) : Fin 3 → Nat :=
  let c0_i32_106 : BitVec 32 := 0#32
  let v127 : Index := Scalar.indexCast c0_i32_106
  let c0_i32_100 : BitVec 32 := 0#32
  let c1_i32_102 : BitVec 32 := 1#32
  let arg12 : BitVec 32 := Scf.iv c0_i32_100 c1_i32_102 k0_t6
  let v128 : Index := Scalar.indexCast arg12
  let c32 : Index := 32#32
  ![0, v128.toNat, 32]
def k0_off31 (k0_t6 : Fin k0_t6_loop.trips) : Fin 3 → Nat :=
  let c0_i32_107 : BitVec 32 := 0#32
  let v130 : Index := Scalar.indexCast c0_i32_107
  let c0_i32_100 : BitVec 32 := 0#32
  let c1_i32_102 : BitVec 32 := 1#32
  let arg12 : BitVec 32 := Scf.iv c0_i32_100 c1_i32_102 k0_t6
  let v131 : Index := Scalar.indexCast arg12
  let c48 : Index := 48#32
  ![0, v131.toNat, 48]
def k0_off32 (k0_t6 : Fin k0_t6_loop.trips) : Fin 3 → Nat :=
  let c0_i32_108 : BitVec 32 := 0#32
  let v133 : Index := Scalar.indexCast c0_i32_108
  let c0_i32_100 : BitVec 32 := 0#32
  let c1_i32_102 : BitVec 32 := 1#32
  let arg12 : BitVec 32 := Scf.iv c0_i32_100 c1_i32_102 k0_t6
  let v134 : Index := Scalar.indexCast arg12
  let c64 : Index := 64#32
  ![0, v134.toNat, 64]
def k0_off33 (k0_t6 : Fin k0_t6_loop.trips) : Fin 3 → Nat :=
  let c0_i32_109 : BitVec 32 := 0#32
  let v136 : Index := Scalar.indexCast c0_i32_109
  let c0_i32_100 : BitVec 32 := 0#32
  let c1_i32_102 : BitVec 32 := 1#32
  let arg12 : BitVec 32 := Scf.iv c0_i32_100 c1_i32_102 k0_t6
  let v137 : Index := Scalar.indexCast arg12
  let c80 : Index := 80#32
  ![0, v137.toNat, 80]
def k0_off34 (k0_t6 : Fin k0_t6_loop.trips) : Fin 3 → Nat :=
  let c0_i32_110 : BitVec 32 := 0#32
  let v139 : Index := Scalar.indexCast c0_i32_110
  let c0_i32_100 : BitVec 32 := 0#32
  let c1_i32_102 : BitVec 32 := 1#32
  let arg12 : BitVec 32 := Scf.iv c0_i32_100 c1_i32_102 k0_t6
  let v140 : Index := Scalar.indexCast arg12
  let c96 : Index := 96#32
  ![0, v140.toNat, 96]
def k0_off35 (k0_t6 : Fin k0_t6_loop.trips) : Fin 3 → Nat :=
  let c0_i32_111 : BitVec 32 := 0#32
  let v142 : Index := Scalar.indexCast c0_i32_111
  let c0_i32_100 : BitVec 32 := 0#32
  let c1_i32_102 : BitVec 32 := 1#32
  let arg12 : BitVec 32 := Scf.iv c0_i32_100 c1_i32_102 k0_t6
  let v143 : Index := Scalar.indexCast arg12
  let c112 : Index := 112#32
  ![0, v143.toNat, 112]
def k0_off36 (k0_t6 : Fin k0_t6_loop.trips) : Fin 3 → Nat :=
  let c1_i32_112 : BitVec 32 := 1#32
  let v145 : Index := Scalar.indexCast c1_i32_112
  let c0_i32_100 : BitVec 32 := 0#32
  let c1_i32_102 : BitVec 32 := 1#32
  let arg12 : BitVec 32 := Scf.iv c0_i32_100 c1_i32_102 k0_t6
  let v146 : Index := Scalar.indexCast arg12
  let c0_113 : Index := 0#32
  ![1, v146.toNat, 0]
def k0_off37 (k0_t6 : Fin k0_t6_loop.trips) : Fin 3 → Nat :=
  let c1_i32_114 : BitVec 32 := 1#32
  let v148 : Index := Scalar.indexCast c1_i32_114
  let c0_i32_100 : BitVec 32 := 0#32
  let c1_i32_102 : BitVec 32 := 1#32
  let arg12 : BitVec 32 := Scf.iv c0_i32_100 c1_i32_102 k0_t6
  let v149 : Index := Scalar.indexCast arg12
  let c16_115 : Index := 16#32
  ![1, v149.toNat, 16]
def k0_off38 (k0_t6 : Fin k0_t6_loop.trips) : Fin 3 → Nat :=
  let c1_i32_116 : BitVec 32 := 1#32
  let v151 : Index := Scalar.indexCast c1_i32_116
  let c0_i32_100 : BitVec 32 := 0#32
  let c1_i32_102 : BitVec 32 := 1#32
  let arg12 : BitVec 32 := Scf.iv c0_i32_100 c1_i32_102 k0_t6
  let v152 : Index := Scalar.indexCast arg12
  let c32_117 : Index := 32#32
  ![1, v152.toNat, 32]
def k0_off39 (k0_t6 : Fin k0_t6_loop.trips) : Fin 3 → Nat :=
  let c1_i32_118 : BitVec 32 := 1#32
  let v154 : Index := Scalar.indexCast c1_i32_118
  let c0_i32_100 : BitVec 32 := 0#32
  let c1_i32_102 : BitVec 32 := 1#32
  let arg12 : BitVec 32 := Scf.iv c0_i32_100 c1_i32_102 k0_t6
  let v155 : Index := Scalar.indexCast arg12
  let c48_119 : Index := 48#32
  ![1, v155.toNat, 48]
def k0_off40 (k0_t6 : Fin k0_t6_loop.trips) : Fin 3 → Nat :=
  let c1_i32_120 : BitVec 32 := 1#32
  let v157 : Index := Scalar.indexCast c1_i32_120
  let c0_i32_100 : BitVec 32 := 0#32
  let c1_i32_102 : BitVec 32 := 1#32
  let arg12 : BitVec 32 := Scf.iv c0_i32_100 c1_i32_102 k0_t6
  let v158 : Index := Scalar.indexCast arg12
  let c64_121 : Index := 64#32
  ![1, v158.toNat, 64]
def k0_off41 (k0_t6 : Fin k0_t6_loop.trips) : Fin 3 → Nat :=
  let c1_i32_122 : BitVec 32 := 1#32
  let v160 : Index := Scalar.indexCast c1_i32_122
  let c0_i32_100 : BitVec 32 := 0#32
  let c1_i32_102 : BitVec 32 := 1#32
  let arg12 : BitVec 32 := Scf.iv c0_i32_100 c1_i32_102 k0_t6
  let v161 : Index := Scalar.indexCast arg12
  let c80_123 : Index := 80#32
  ![1, v161.toNat, 80]
def k0_off42 (k0_t6 : Fin k0_t6_loop.trips) : Fin 3 → Nat :=
  let c1_i32_124 : BitVec 32 := 1#32
  let v163 : Index := Scalar.indexCast c1_i32_124
  let c0_i32_100 : BitVec 32 := 0#32
  let c1_i32_102 : BitVec 32 := 1#32
  let arg12 : BitVec 32 := Scf.iv c0_i32_100 c1_i32_102 k0_t6
  let v164 : Index := Scalar.indexCast arg12
  let c96_125 : Index := 96#32
  ![1, v164.toNat, 96]
def k0_off43 (k0_t6 : Fin k0_t6_loop.trips) : Fin 3 → Nat :=
  let c1_i32_126 : BitVec 32 := 1#32
  let v166 : Index := Scalar.indexCast c1_i32_126
  let c0_i32_100 : BitVec 32 := 0#32
  let c1_i32_102 : BitVec 32 := 1#32
  let arg12 : BitVec 32 := Scf.iv c0_i32_100 c1_i32_102 k0_t6
  let v167 : Index := Scalar.indexCast arg12
  let c112_127 : Index := 112#32
  ![1, v167.toNat, 112]
def k0_off44 (k0_t6 : Fin k0_t6_loop.trips) : Fin 3 → Nat :=
  let c2_i32_128 : BitVec 32 := 2#32
  let v169 : Index := Scalar.indexCast c2_i32_128
  let c0_i32_100 : BitVec 32 := 0#32
  let c1_i32_102 : BitVec 32 := 1#32
  let arg12 : BitVec 32 := Scf.iv c0_i32_100 c1_i32_102 k0_t6
  let v170 : Index := Scalar.indexCast arg12
  let c0_129 : Index := 0#32
  ![2, v170.toNat, 0]
def k0_off45 (k0_t6 : Fin k0_t6_loop.trips) : Fin 3 → Nat :=
  let c2_i32_130 : BitVec 32 := 2#32
  let v172 : Index := Scalar.indexCast c2_i32_130
  let c0_i32_100 : BitVec 32 := 0#32
  let c1_i32_102 : BitVec 32 := 1#32
  let arg12 : BitVec 32 := Scf.iv c0_i32_100 c1_i32_102 k0_t6
  let v173 : Index := Scalar.indexCast arg12
  let c16_131 : Index := 16#32
  ![2, v173.toNat, 16]
def k0_off46 (k0_t6 : Fin k0_t6_loop.trips) : Fin 3 → Nat :=
  let c2_i32_132 : BitVec 32 := 2#32
  let v175 : Index := Scalar.indexCast c2_i32_132
  let c0_i32_100 : BitVec 32 := 0#32
  let c1_i32_102 : BitVec 32 := 1#32
  let arg12 : BitVec 32 := Scf.iv c0_i32_100 c1_i32_102 k0_t6
  let v176 : Index := Scalar.indexCast arg12
  let c32_133 : Index := 32#32
  ![2, v176.toNat, 32]
def k0_off47 (k0_t6 : Fin k0_t6_loop.trips) : Fin 3 → Nat :=
  let c2_i32_134 : BitVec 32 := 2#32
  let v178 : Index := Scalar.indexCast c2_i32_134
  let c0_i32_100 : BitVec 32 := 0#32
  let c1_i32_102 : BitVec 32 := 1#32
  let arg12 : BitVec 32 := Scf.iv c0_i32_100 c1_i32_102 k0_t6
  let v179 : Index := Scalar.indexCast arg12
  let c48_135 : Index := 48#32
  ![2, v179.toNat, 48]
def k0_off48 (k0_t6 : Fin k0_t6_loop.trips) : Fin 3 → Nat :=
  let c2_i32_136 : BitVec 32 := 2#32
  let v181 : Index := Scalar.indexCast c2_i32_136
  let c0_i32_100 : BitVec 32 := 0#32
  let c1_i32_102 : BitVec 32 := 1#32
  let arg12 : BitVec 32 := Scf.iv c0_i32_100 c1_i32_102 k0_t6
  let v182 : Index := Scalar.indexCast arg12
  let c64_137 : Index := 64#32
  ![2, v182.toNat, 64]
def k0_off49 (k0_t6 : Fin k0_t6_loop.trips) : Fin 3 → Nat :=
  let c2_i32_138 : BitVec 32 := 2#32
  let v184 : Index := Scalar.indexCast c2_i32_138
  let c0_i32_100 : BitVec 32 := 0#32
  let c1_i32_102 : BitVec 32 := 1#32
  let arg12 : BitVec 32 := Scf.iv c0_i32_100 c1_i32_102 k0_t6
  let v185 : Index := Scalar.indexCast arg12
  let c80_139 : Index := 80#32
  ![2, v185.toNat, 80]
def k0_off50 (k0_t6 : Fin k0_t6_loop.trips) : Fin 3 → Nat :=
  let c2_i32_140 : BitVec 32 := 2#32
  let v187 : Index := Scalar.indexCast c2_i32_140
  let c0_i32_100 : BitVec 32 := 0#32
  let c1_i32_102 : BitVec 32 := 1#32
  let arg12 : BitVec 32 := Scf.iv c0_i32_100 c1_i32_102 k0_t6
  let v188 : Index := Scalar.indexCast arg12
  let c96_141 : Index := 96#32
  ![2, v188.toNat, 96]
def k0_off51 (k0_t6 : Fin k0_t6_loop.trips) : Fin 3 → Nat :=
  let c2_i32_142 : BitVec 32 := 2#32
  let v190 : Index := Scalar.indexCast c2_i32_142
  let c0_i32_100 : BitVec 32 := 0#32
  let c1_i32_102 : BitVec 32 := 1#32
  let arg12 : BitVec 32 := Scf.iv c0_i32_100 c1_i32_102 k0_t6
  let v191 : Index := Scalar.indexCast arg12
  let c112_143 : Index := 112#32
  ![2, v191.toNat, 112]
def k0_cond5 (k0_t2 : Fin k0_t2_loop.trips) : BitVec 1 :=
  let c0_i32_5 : BitVec 32 := 0#32
  let c1_i32_6 : BitVec 32 := 1#32
  let arg10 : BitVec 32 := Scf.iv c0_i32_5 c1_i32_6 k0_t2
  let c2_i32_68 : BitVec 32 := 2#32
  let v87 : BitVec 1 := Scalar.cmpi .sge arg10 c2_i32_68
  let v88 : BitVec 32 := Scalar.extui v87
  let c0_i32_69 : BitVec 32 := 0#32
  let v89 : BitVec 1 := Scalar.cmpi .ne v88 c0_i32_69
  v89

def k0_off52 (i : grid0.Coords) (k0_t2 : Fin k0_t2_loop.trips) (c0_i32_99 : BitVec 32) : Fin 3 → Nat :=
  let arg1 : BitVec 32 := BitVec.ofNat 32 (i 1).val
  let arg0 : BitVec 32 := BitVec.ofNat 32 (i 0).val
  let c8_i32_57 : BitVec 32 := 8#32
  let v73 : BitVec 32 := Scalar.muli arg0 c8_i32_57
  let c0_i32_5 : BitVec 32 := 0#32
  let c1_i32_6 : BitVec 32 := 1#32
  let arg10 : BitVec 32 := Scf.iv c0_i32_5 c1_i32_6 k0_t2
  let v74 : BitVec 32 := Scalar.addi v73 arg10
  let c128_i32_58 : BitVec 32 := 128#32
  let v75 : BitVec 32 := Scalar.muli v74 c128_i32_58
  let c256_i32 : BitVec 32 := 256#32
  let v119 : BitVec 32 := Scalar.subi v75 c256_i32
  let v120 : BitVec 32 := Scalar.addi c0_i32_99 v119
  let c0_i32_103 : BitVec 32 := 0#32
  ![arg1.toNat, v120.toNat, 0]
@[reducible] def k0_t7_loop : Scf.Loop 32 :=
  let c0_i32_71 : BitVec 32 := 0#32
  let c2_i32_72 : BitVec 32 := 2#32
  let v90 : BitVec 32 := Scalar.addi c0_i32_71 c2_i32_72
  let c1_i32_73 : BitVec 32 := 1#32
  ⟨c0_i32_71, v90, c1_i32_73⟩
@[reducible] def k0_t8_loop : Scf.Loop 32 :=
  let c0_i32_106 : BitVec 32 := 0#32
  let c4_i32_107 : BitVec 32 := 4#32
  let v129 : BitVec 32 := Scalar.addi c0_i32_106 c4_i32_107
  let c1_i32_108 : BitVec 32 := 1#32
  ⟨c0_i32_106, v129, c1_i32_108⟩
@[reducible] def k0_t9_loop : Scf.Loop 32 :=
  let c0_i32_112 : BitVec 32 := 0#32
  let c8_i32_113 : BitVec 32 := 8#32
  let v133 : BitVec 32 := Scalar.addi c0_i32_112 c8_i32_113
  let c1_i32_114 : BitVec 32 := 1#32
  ⟨c0_i32_112, v133, c1_i32_114⟩

def k0_chk5 (k0_t2 : Fin k0_t2_loop.trips) (v140 : IVec S16 32) : Prop :=
  (∀ (k0_h3 : k0_cond3 k0_t2 = 1#1), ∀ a x, ((![v140] : Fin 1 → IVec S16 32) a x).toNat < S512.size a)
theorem k0_idx5_inb : ∀ (k0_t2 : Fin k0_t2_loop.trips) (v140 : IVec S16 32) (k0_hw5 : k0_chk5 k0_t2 v140), ∀ (k0_h3 : k0_cond3 k0_t2 = 1#1), ∀ a x, ((![v140] : Fin 1 → IVec S16 32) a x).toNat < S512.size a := fun k0_t2 v140 k0_hw5 k0_h3 => k0_hw5 k0_h3

def k0_chk6 (v2 : IVec S16 32) (k0_t2 : Fin k0_t2_loop.trips) (v154 : IVec S16 32) (v158 : IVec S16 32) : Prop :=
  (∀ (k0_h3 : k0_cond3 k0_t2 = 1#1), ∀ a x, ((![v2, v154, v158] : Fin 3 → IVec S16 32) a x).toNat < S3x128x128.size a)
theorem k0_idx6_inb : ∀ (v2 : IVec S16 32) (k0_t2 : Fin k0_t2_loop.trips) (v154 : IVec S16 32) (v158 : IVec S16 32) (k0_hw6 : k0_chk6 v2 k0_t2 v154 v158), ∀ (k0_h3 : k0_cond3 k0_t2 = 1#1), ∀ a x, ((![v2, v154, v158] : Fin 3 → IVec S16 32) a x).toNat < S3x128x128.size a := fun v2 k0_t2 v154 v158 k0_hw6 k0_h3 => k0_hw6 k0_h3

def k0_chk7 (k0_t2 : Fin k0_t2_loop.trips) (v137 : IVec S16 32) (v154 : IVec S16 32) (v163 : IVec S16 32) : Prop :=
  (∀ (k0_h3 : k0_cond3 k0_t2 = 1#1), ∀ a x, ((![v163, v154, v137] : Fin 3 → IVec S16 32) a x).toNat < S3x128x128.size a)
theorem k0_idx7_inb : ∀ (k0_t2 : Fin k0_t2_loop.trips) (v137 : IVec S16 32) (v154 : IVec S16 32) (v163 : IVec S16 32) (k0_hw7 : k0_chk7 k0_t2 v137 v154 v163), ∀ (k0_h3 : k0_cond3 k0_t2 = 1#1), ∀ a x, ((![v163, v154, v137] : Fin 3 → IVec S16 32) a x).toNat < S3x128x128.size a := fun k0_t2 v137 v154 v163 k0_hw7 k0_h3 => k0_hw7 k0_h3

def k0_chk8 (k0_t2 : Fin k0_t2_loop.trips) (v154 : IVec S16 32) (v165 : IVec S16 32) (v169 : IVec S16 32) : Prop :=
  (∀ (k0_h3 : k0_cond3 k0_t2 = 1#1), ∀ a x, ((![v165, v154, v169] : Fin 3 → IVec S16 32) a x).toNat < S3x128x128.size a)
theorem k0_idx8_inb : ∀ (k0_t2 : Fin k0_t2_loop.trips) (v154 : IVec S16 32) (v165 : IVec S16 32) (v169 : IVec S16 32) (k0_hw8 : k0_chk8 k0_t2 v154 v165 v169), ∀ (k0_h3 : k0_cond3 k0_t2 = 1#1), ∀ a x, ((![v165, v154, v169] : Fin 3 → IVec S16 32) a x).toNat < S3x128x128.size a := fun k0_t2 v154 v165 v169 k0_hw8 k0_h3 => k0_hw8 k0_h3
def k0_off53 (i : grid0.Coords) (k0_t2 : Fin k0_t2_loop.trips) (c0_i32_75 : BitVec 32) : Fin 3 → Nat :=
  let arg1 : BitVec 32 := BitVec.ofNat 32 (i 1).val
  let arg0 : BitVec 32 := BitVec.ofNat 32 (i 0).val
  let c8_i32_57 : BitVec 32 := 8#32
  let v73 : BitVec 32 := Scalar.muli arg0 c8_i32_57
  let c0_i32_5 : BitVec 32 := 0#32
  let c1_i32_6 : BitVec 32 := 1#32
  let arg10 : BitVec 32 := Scf.iv c0_i32_5 c1_i32_6 k0_t2
  let v74 : BitVec 32 := Scalar.addi v73 arg10
  let c128_i32_58 : BitVec 32 := 128#32
  let v75 : BitVec 32 := Scalar.muli v74 c128_i32_58
  let v92 : BitVec 32 := Scalar.addi c0_i32_75 v75
  let c0_i32_79 : BitVec 32 := 0#32
  ![arg1.toNat, v92.toNat, 0]
def k0_off54 (i : grid0.Coords) (c0_i32_10 : BitVec 32) (c6_i32 : BitVec 32) : Fin 3 → Nat :=
  let arg1 : BitVec 32 := BitVec.ofNat 32 (i 1).val
  let arg0 : BitVec 32 := BitVec.ofNat 32 (i 0).val
  let c8_i32_8 : BitVec 32 := 8#32
  let v13 : BitVec 32 := Scalar.muli arg0 c8_i32_8
  let v14 : BitVec 32 := Scalar.addi v13 c6_i32
  let c128_i32_9 : BitVec 32 := 128#32
  let v15 : BitVec 32 := Scalar.muli v14 c128_i32_9
  let v16 : BitVec 32 := Scalar.addi c0_i32_10 v15
  let c0_i32_14 : BitVec 32 := 0#32
  ![arg1.toNat, v16.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x128x4 : Shape := ⟨3, ![16, 128, 4]⟩
abbrev S_ : Shape := ⟨0, ![]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S16x128x2048 : Shape := ⟨3, ![16, 128, 2048]⟩
abbrev S16x128x4x1 : Shape := ⟨4, ![16, 128, 4, 1]⟩
abbrev S16x128x4x3 : Shape := ⟨4, ![16, 128, 4, 3]⟩
abbrev S16x2048x128 : Shape := ⟨3, ![16, 2048, 128]⟩
abbrev S16x2048x127 : Shape := ⟨3, ![16, 2048, 127]⟩
abbrev S16x6144x128 : Shape := ⟨3, ![16, 6144, 128]⟩

abbrev nBuf : Space → Nat
  | .hbm => 72
  | .vmem => 0
  | .smem => 0
  | _ => 0

abbrev bufTy : (tb : Table) → Fin (tcTables nBuf tb) → BufTy
  | .hbm, ⟨0, _⟩ => ⟨S16x128x4, .i32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S16x128x4, .i32⟩
  | .hbm, ⟨8, _⟩ => ⟨S16x128x4, .i32⟩
  | .hbm, ⟨9, _⟩ => ⟨S_, .i32⟩
  | .hbm, ⟨10, _⟩ => ⟨S16x128x4, .i32⟩
  | .hbm, ⟨11, _⟩ => ⟨S16x128x4, .i1⟩
  | .hbm, ⟨12, _⟩ => ⟨S_, .i32⟩
  | .hbm, ⟨13, _⟩ => ⟨S16x128x4, .i32⟩
  | .hbm, ⟨14, _⟩ => ⟨S16x128x4, .i1⟩
  | .hbm, ⟨15, _⟩ => ⟨S_, .i32⟩
  | .hbm, ⟨16, _⟩ => ⟨S_, .i1⟩
  | .hbm, ⟨17, _⟩ => ⟨S16x128x4, .i1⟩
  | .hbm, ⟨18, _⟩ => ⟨S16x128x4, .i1⟩
  | .hbm, ⟨19, _⟩ => ⟨S16x128x4, .i1⟩
  | .hbm, ⟨20, _⟩ => ⟨S16x128x4, .i32⟩
  | .hbm, ⟨21, _⟩ => ⟨S16x128x4, .i32⟩
  | .hbm, ⟨22, _⟩ => ⟨S16x128x4, .i32⟩
  | .hbm, ⟨23, _⟩ => ⟨S16, .i32⟩
  | .hbm, ⟨24, _⟩ => ⟨S16x1x1, .i32⟩
  | .hbm, ⟨25, _⟩ => ⟨S128, .i32⟩
  | .hbm, ⟨26, _⟩ => ⟨S1x128x1, .i32⟩
  | .hbm, ⟨27, _⟩ => ⟨S_, .f32⟩
  | .hbm, ⟨28, _⟩ => ⟨S16x128x2048, .f32⟩
  | .hbm, ⟨29, _⟩ => ⟨S_, .i32⟩
  | .hbm, ⟨30, _⟩ => ⟨S16x1x1, .i32⟩
  | .hbm, ⟨31, _⟩ => ⟨S16x1x1, .i1⟩
  | .hbm, ⟨32, _⟩ => ⟨S_, .i32⟩
  | .hbm, ⟨33, _⟩ => ⟨S16x1x1, .i32⟩
  | .hbm, ⟨34, _⟩ => ⟨S16x1x1, .i32⟩
  | .hbm, ⟨35, _⟩ => ⟨S16x1x1, .i32⟩
  | .hbm, ⟨36, _⟩ => ⟨S_, .i32⟩
  | .hbm, ⟨37, _⟩ => ⟨S1x128x1, .i32⟩
  | .hbm, ⟨38, _⟩ => ⟨S1x128x1, .i1⟩
  | .hbm, ⟨39, _⟩ => ⟨S_, .i32⟩
  | .hbm, ⟨40, _⟩ => ⟨S1x128x1, .i32⟩
  | .hbm, ⟨41, _⟩ => ⟨S1x128x1, .i32⟩
  | .hbm, ⟨42, _⟩ => ⟨S1x128x1, .i32⟩
  | .hbm, ⟨43, _⟩ => ⟨S_, .i32⟩
  | .hbm, ⟨44, _⟩ => ⟨S16x128x4, .i32⟩
  | .hbm, ⟨45, _⟩ => ⟨S16x128x4, .i1⟩
  | .hbm, ⟨46, _⟩ => ⟨S_, .i32⟩
  | .hbm, ⟨47, _⟩ => ⟨S16x128x4, .i32⟩
  | .hbm, ⟨48, _⟩ => ⟨S16x128x4, .i32⟩
  | .hbm, ⟨49, _⟩ => ⟨S16x128x4, .i32⟩
  | .hbm, ⟨50, _⟩ => ⟨S16x128x4, .i32⟩
  | .hbm, ⟨51, _⟩ => ⟨S16x128x4, .i32⟩
  | .hbm, ⟨52, _⟩ => ⟨S16x128x4x1, .i32⟩
  | .hbm, ⟨53, _⟩ => ⟨S16x128x4x1, .i32⟩
  | .hbm, ⟨54, _⟩ => ⟨S16x128x4x1, .i32⟩
  | .hbm, ⟨55, _⟩ => ⟨S16x128x4x3, .i32⟩
  | .hbm, ⟨56, _⟩ => ⟨S_, .f32⟩
  | .hbm, ⟨57, _⟩ => ⟨S16x128x4, .f32⟩
  | .hbm, ⟨58, _⟩ => ⟨S16x128x2048, .f32⟩
  | .hbm, ⟨59, _⟩ => ⟨S16x2048x128, .f32⟩
  | .hbm, ⟨60, _⟩ => ⟨S16x2048x127, .f32⟩
  | .hbm, ⟨61, _⟩ => ⟨S_, .i32⟩
  | .hbm, ⟨62, _⟩ => ⟨S_, .f32⟩
  | .hbm, ⟨63, _⟩ => ⟨S16x2048x128, .f32⟩
  | .hbm, ⟨64, _⟩ => ⟨S_, .i32⟩
  | .hbm, ⟨65, _⟩ => ⟨S_, .f32⟩
  | .hbm, ⟨66, _⟩ => ⟨S16x2048x128, .f32⟩
  | .hbm, ⟨67, _⟩ => ⟨S16x2048x127, .f32⟩
  | .hbm, ⟨68, _⟩ => ⟨S_, .i32⟩
  | .hbm, ⟨69, _⟩ => ⟨S_, .f32⟩
  | .hbm, ⟨70, _⟩ => ⟨S16x2048x128, .f32⟩
  | .hbm, ⟨71, _⟩ => ⟨S16x6144x128, .f32⟩
  | _, _ => ⟨S16x128x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_c : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_c_1 : Ref sig .tc := ⟨.hbm, 9, rfl⟩
abbrev main_call0_v5 : Ref sig .tc := ⟨.hbm, 10, rfl⟩
abbrev main_call0_v6 : Ref sig .tc := ⟨.hbm, 11, rfl⟩
abbrev main_call0_c_2 : Ref sig .tc := ⟨.hbm, 12, rfl⟩
abbrev main_call0_v7 : Ref sig .tc := ⟨.hbm, 13, rfl⟩
abbrev main_call0_v8 : Ref sig .tc := ⟨.hbm, 14, rfl⟩
abbrev main_call0_c_3 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_c_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_6 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_7 : Ref sig .tc := ⟨.hbm, 61, rfl⟩
abbrev main_call1_v0 : Ref sig .tc := ⟨.hbm, 62, rfl⟩
abbrev main_v31 : Ref sig .tc := ⟨.hbm, 63, rfl⟩
abbrev main_c_8 : Ref sig .tc := ⟨.hbm, 64, rfl⟩
abbrev main_call2_v0 : Ref sig .tc := ⟨.hbm, 65, rfl⟩
abbrev main_v32 : Ref sig .tc := ⟨.hbm, 66, rfl⟩
abbrev main_v33 : Ref sig .tc := ⟨.hbm, 67, rfl⟩
abbrev main_c_9 : Ref sig .tc := ⟨.hbm, 68, rfl⟩
abbrev main_call3_v0 : Ref sig .tc := ⟨.hbm, 69, rfl⟩
abbrev main_v34 : Ref sig .tc := ⟨.hbm, 70, rfl⟩
abbrev main_v35 : Ref sig .tc := ⟨.hbm, 71, rfl⟩

abbrev nD : Nat := 1
abbrev τ : Topo := Topo.v7x

variable {F : FTy → Type} [FloatOps F]
-- ==== Proof.Scatter.lean ====
/-
  What one tile's scatter loops compute, as functions on the contents of a count buffer, over any float values:
  the three indexed additions of one lane group (`step3`), the lane groups of one bucket plane (`passJ`), the planes
  of one pass (`passN`), the two passes of one chunk (`chunk`), and what the two buffers hold when chunk `t`'s rows
  leave (`bufAt`). Every index these operations name lies in the buffer, whatever the hash words are.
-/
module

public import proofs.«01_k».proof.Defs
public import proofs.«01_k».proof.Proof.Gen.KernelIdeal
public import proofs.«01_k».proof.Proof.Gen.KernelIdeal.Skeleton

@[expose] public section

noncomputable section

namespace Cert.Proof.Hist

open Cert.KernelIdeal Cert.KernelIdeal.Gen
open Idealize.ShloMosaic

variable {F : FTy → Type} [FloatOps F]

/-! ## Iteration over the trips of a counted loop -/

/-- The first `k` of the `n` steps `f`, in order, from `a`. -/
def iter {α : Type} {n : ℕ} (f : Fin n → α → α) : ℕ → α → α
  | 0, a => a
  | k + 1, a => if h : k < n then f ⟨k, h⟩ (iter f k a) else iter f k a

omit [FloatOps F] in
theorem iter_zero {α : Type} {n : ℕ} (f : Fin n → α → α) (a : α) : iter f 0 a = a := rfl
omit [FloatOps F] in
theorem iter_succ {α : Type} {n : ℕ} (f : Fin n → α → α) (k : Fin n) (a : α) : iter f (k.val + 1) a = f k (iter f k.val a) := by
  show (if h : k.val < n then f ⟨k.val, h⟩ (iter f k.val a) else iter f k.val a) = _
  rw [dif_pos k.isLt]

/-! ## The index vectors -/

/-- The lane numbers 0, …, 15. -/
abbrev lanes : IVec S16 32 := iota .scVector S16 32 [0] iota_S16_d0_w32_scVector

/-- Lane group `j`'s sequence positions: lane `x` is `16 j + x`. -/
abbrev pos (j : Fin k0_t5_loop.trips) : IVec S16 32 := k0_pay1 lanes 0#32 1#32 j

theorem pos_apply : ∀ (j : Fin k0_t5_loop.trips) (x : S16.Idx), (pos j x).toNat = 16 * j.val + (x 0).val := by
  intro j x
  have hj : j.val < 8 := lt_of_lt_of_le j.isLt k0_t5_abs.2.1
  have hx : (x 0).val < 16 := (x 0).isLt
  have key : ∀ (a : Fin 8) (b : Fin 16),
      (BitVec.ofNat 32 b.val + (0#32 + BitVec.ofNat 32 a.val * 1#32) * 16#32).toNat = 16 * a.val + b.val := by decide
  have := key ⟨j.val, hj⟩ ⟨(x 0).val, hx⟩
  simpa [pos, k0_pay1, lanes, iota, addi, broadcast, IntOp.addi, Scalar.muli, IntOp.muli, Scf.iv] using this

theorem zero_apply (x : S16.Idx) : k0_pay28 x = 0#32 := rfl

/-- Bucket plane `n`, lane group `j`: lane `x` reads hash word `4 (16 j + x) + n`. -/
abbrev word (n : Fin k0_t4_loop.trips) (j : Fin k0_t5_loop.trips) : IVec S16 32 := k0_pay2 (k0_pay13 k0_pay28 n) (pos j)

theorem word_apply (n : Fin k0_t4_loop.trips) (j : Fin k0_t5_loop.trips) (x : S16.Idx) :
    (word n j x).toNat = 4 * (16 * j.val + (x 0).val) + n.val := by
  have hj : j.val < 8 := lt_of_lt_of_le j.isLt k0_t5_abs.2.1
  have hn : n.val < 4 := lt_of_lt_of_le n.isLt k0_t4_abs.2.1
  have hx : (x 0).val < 16 := (x 0).isLt
  have e : word n j x = pos j x * 4#32 + (0#32 + (0#32 + BitVec.ofNat 32 n.val * 1#32)) := by
    simp [word, k0_pay2, k0_pay13, addi, muli, broadcast, IntOp.addi, IntOp.muli, Scf.iv, zero_apply]
  have hp := pos_apply j x
  rw [e]
  simp only [BitVec.toNat_add, BitVec.toNat_mul, hp, BitVec.toNat_ofNat, Nat.reducePow]
  omega

theorem word_inb (n : Fin k0_t4_loop.trips) (j : Fin k0_t5_loop.trips) :
    ∀ a x, ((![word n j] : Fin 1 → IVec S16 32) a x).toNat < S512.size a := by
  intro a x
  have hj : j.val < 8 := lt_of_lt_of_le j.isLt k0_t5_abs.2.1
  have hn : n.val < 4 := lt_of_lt_of_le n.isLt k0_t4_abs.2.1
  have hx : (x 0).val < 16 := (x 0).isLt
  have hw := word_apply n j x
  match a with
  | 0 => show (word n j x).toNat < 512; omega

theorem and127 (w : BitVec 32) : (w &&& 127#32).toNat < 128 := by
  rw [BitVec.toNat_and]; exact lt_of_le_of_lt Nat.and_le_right (by decide)

/-- A lane's row in the chunk that begins at bucket `mm`, of its hash word. -/
theorem row_lt (mm : BitVec 32) (h : Vec F S16 .i32) (x : S16.Idx) : (k0_pay5 mm h x).toNat < 128 := and127 _
theorem right_lt (p : IVec S16 32) (x : S16.Idx) : (k0_pay6 p x).toNat < 128 := and127 _
theorem left_lt (p : IVec S16 32) (x : S16.Idx) : (k0_pay10 p x).toNat < 128 := and127 _
theorem pos_lt (j : Fin k0_t5_loop.trips) (x : S16.Idx) : (pos j x).toNat < 128 := by
  have hj : j.val < 8 := lt_of_lt_of_le j.isLt k0_t5_abs.2.1
  have hx : (x 0).val < 16 := (x 0).isLt
  have := pos_apply j x; omega

theorem inb0 (mm : BitVec 32) (h : Vec F S16 .i32) (p : IVec S16 32) :
    ∀ a x, ((![k0_pay28, k0_pay5 mm h, k0_pay6 p] : Fin 3 → IVec S16 32) a x).toNat < S3x128x128.size a := by
  intro a x
  match a with
  | 0 => show (0#32).toNat < 3; decide
  | 1 => exact row_lt mm h x
  | 2 => exact right_lt p x
theorem inb1 (mm : BitVec 32) (h : Vec F S16 .i32) (j : Fin k0_t5_loop.trips) :
    ∀ a x, ((![k0_pay8 k0_pay28, k0_pay5 mm h, pos j] : Fin 3 → IVec S16 32) a x).toNat < S3x128x128.size a := by
  intro a x
  match a with
  | 0 => show (0#32 + 1#32).toNat < 3; decide
  | 1 => exact row_lt mm h x
  | 2 => exact pos_lt j x
theorem inb2 (mm : BitVec 32) (h : Vec F S16 .i32) (p : IVec S16 32) :
    ∀ a x, ((![k0_pay9 k0_pay28, k0_pay5 mm h, k0_pay10 p] : Fin 3 → IVec S16 32) a x).toNat < S3x128x128.size a := by
  intro a x
  match a with
  | 0 => show (0#32 + 2#32).toNat < 3; decide
  | 1 => exact row_lt mm h x
  | 2 => exact left_lt p x

/-! ## One lane group, one plane, one pass, one chunk -/

/-- The hash words lane group `j` reads of plane `n`. -/
def words (hv : Vec F S512 .i32) (n : Fin k0_t4_loop.trips) (j : Fin k0_t5_loop.trips) : Vec F S16 .i32 :=
  loadIdx hv ![word n j] (word_inb n j)

/-- One lane group's three additions: onto plane 0 one position to the right, onto plane 1 in place, onto plane 2 one
    position to the left. -/
def step3 (hv : Vec F S512 .i32) (mm : BitVec 32) (en : BitVec 1) (v : FVec F S16 .f32) (n : Fin k0_t4_loop.trips)
    (j : Fin k0_t5_loop.trips) (b : Vec F S3x128x128 .f32) : Vec F S3x128x128 .f32 :=
  storeIdx (storeIdx (storeIdx b
    ![k0_pay28, k0_pay5 mm (words hv n j), k0_pay6 (pos j)] v (k0_pay7 mm en (pos j) (words hv n j)) true (inb0 mm _ _))
    ![k0_pay8 k0_pay28, k0_pay5 mm (words hv n j), pos j] v (k0_pay4 mm en (words hv n j)) true (inb1 mm _ _))
    ![k0_pay9 k0_pay28, k0_pay5 mm (words hv n j), k0_pay10 (pos j)] v (k0_pay11 mm en (pos j) (words hv n j)) true (inb2 mm _ _)

/-- The lane groups of plane `n`, the first `k` of them. -/
def passJ (hv : Vec F S512 .i32) (mm : BitVec 32) (en : BitVec 1) (v : FVec F S16 .f32) (n : Fin k0_t4_loop.trips) (k : ℕ)
    (b : Vec F S3x128x128 .f32) : Vec F S3x128x128 .f32 := iter (step3 hv mm en v n) k b

/-- The planes, the first `k` of them. -/
def passN (hv : Vec F S512 .i32) (mm : BitVec 32) (en : BitVec 1) (v : FVec F S16 .f32) (k : ℕ)
    (b : Vec F S3x128x128 .f32) : Vec F S3x128x128 .f32 := iter (fun n => passJ hv mm en v n k0_t5_loop.trips) k b

/-- The loop counter of trip `t`, as a word. -/
abbrev cnt (t : Fin k0_t2_loop.trips) : BitVec 32 := Scf.iv 0#32 1#32 t
/-- The first bucket of chunk `t` of the tile at grid point `i`. -/
abbrev base (i : grid0.Coords) (t : Fin k0_t2_loop.trips) : BitVec 32 :=
  Scalar.muli (Scalar.addi (Scalar.muli (BitVec.ofNat 32 (i 0).val) 8#32) (cnt t)) 128#32
/-- The first bucket pass `q` works on: two chunks back, then the chunk itself. -/
abbrev passBase (i : grid0.Coords) (t : Fin k0_t2_loop.trips) (q : Fin k0_t3_loop.trips) : BitVec 32 :=
  Scalar.select (Scalar.cmpi .eq (Scf.iv 0#32 1#32 q) 0#32) (Scalar.subi (base i t) 256#32) (base i t)
/-- Whether pass `q` of chunk `t` does anything. -/
abbrev passOn (t : Fin k0_t2_loop.trips) (q : Fin k0_t3_loop.trips) : BitVec 1 :=
  Scalar.ori (Scalar.cmpi .eq (Scf.iv 0#32 1#32 q) 1#32) (Scalar.cmpi .sge (cnt t) 2#32)

/-- Pass `q` of chunk `t`: the first takes the counts of two chunks back off again, the second adds the chunk's. -/
def pass (i : grid0.Coords) (hv : Vec F S512 .i32) (t : Fin k0_t2_loop.trips) (q : Fin k0_t3_loop.trips)
    (b : Vec F S3x128x128 .f32) : Vec F S3x128x128 .f32 :=
  passN hv (passBase i t q) (passOn t q) (k0_pay12 q) k0_t4_loop.trips b

/-- Chunk `t`: its passes, the first `k` of them. -/
def chunkK (i : grid0.Coords) (hv : Vec F S512 .i32) (t : Fin k0_t2_loop.trips) (k : ℕ)
    (b : Vec F S3x128x128 .f32) : Vec F S3x128x128 .f32 := iter (pass i hv t) k b

/-- Chunk `t`, both passes; no chunk past the last. -/
def chunk (i : grid0.Coords) (hv : Vec F S512 .i32) (t : ℕ) (b : Vec F S3x128x128 .f32) : Vec F S3x128x128 .f32 :=
  if h : t < k0_t2_loop.trips then chunkK i hv ⟨t, h⟩ k0_t3_loop.trips b else b

theorem chunk_eq (i : grid0.Coords) (hv : Vec F S512 .i32) (t : Fin k0_t2_loop.trips) (b : Vec F S3x128x128 .f32) :
    chunk i hv t.val b = chunkK i hv t k0_t3_loop.trips b := by
  unfold chunk; rw [dif_pos t.isLt]

/-- The zeros a buffer starts from. -/
def zeros : Vec F S3x128x128 .f32 := fun _ => Scalar.ofBits .f32 0x00000000#32

/-- What buffer `t % 2` holds when chunk `t` leaves: chunk `t` on top of what the buffer held two chunks back, the
    first two chunks on top of zeros. -/
def bufAt (i : grid0.Coords) (hv : Vec F S512 .i32) : ℕ → Vec F S3x128x128 .f32
  | 0 => chunk i hv 0 zeros
  | 1 => chunk i hv 1 zeros
  | t + 2 => chunk i hv (t + 2) (bufAt i hv t)

end Cert.Proof.Hist

end
-- ==== Proof.Base.lean ====
/-
  The set-up of the run: the program as the launch sees it, the resource algebra (the launch's handshakes and the
  transfers' counters), the kernel's memrefs, the pieces of the result each copy fills and of the buffers each copy
  reads, and the two steps every chunk repeats: one copy out started, one copy out waited for.
-/
module

public import proofs.«01_k».proof.Proof.Scatter
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.ValueKit.Geometry
public import Idealize.ShloMosaic.Lib.Tactic
public import Idealize.ShloMosaic.Lib.Batch

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are four different ones, none of them a kernel's own, and no buffer is shared by tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- The transfers' counters, the right factor. -/
abbrev EC : UEmb Counters (MT nD τ sig (HIx 1) (Elt F) ℕ UU ℕ) := countersEmb (U := UU)

/-! ## The memrefs -/

abbrev hV : Memref sig .scVector .hbm S8192 .i32 := Memref.whole main_v0_scv
abbrev oV : Memref sig .scVector .hbm S16x6144x128 .f32 := Memref.whole main_v1_scv
abbrev wV : Memref sig .scVector .vmem S512 .i32 := Memref.whole cc0_scratch0
abbrev bA : Memref sig .scVector .vmem S3x128x128 .f32 := Memref.whole cc0_scratch1
abbrev bB : Memref sig .scVector .vmem S3x128x128 .f32 := Memref.whole cc0_scratch2

/-- The argument, the flat hash words, the result, as locations of device `d`. -/
abbrev aLoc (d : Dev nD) : Loc nD τ sig := (SparseCore.T d).loc main_arg0
abbrev hLoc (d : Dev nD) : Loc nD τ sig := (SparseCore.T d).loc main_v0
abbrev oLoc (d : Dev nD) : Loc nD τ sig := (SparseCore.T d).loc main_v1

abbrev cV (L : grid0.Coords) : Fin τ.nSC := (L 0).castLE hcore0
abbrev jV (L : grid0.Coords) : Fin τ.nSub := (L 1).castLE hsub0
/-- The tile at grid point `L` of device `d`. -/
abbrev thr (d : Dev nD) (L : grid0.Coords) : Thread nD τ := V d (cV L) (jV L)

theorem L0_lt (L : grid0.Coords) : (L 0).val < 2 := (L 0).isLt
theorem L1_lt (L : grid0.Coords) : (L 1).val < 16 := (L 1).isLt
theorem trips2 (t : Fin k0_t2_loop.trips) : t.val < 8 := lt_of_lt_of_le t.isLt k0_t2_abs.2.1

/-! ## The pieces of the result, and the planes of a buffer -/

abbrev outOff (L : grid0.Coords) (t : Fin 8) (k : Fin 3) : Fin 3 → ℕ :=
  ![(L 1).val, 2048 * k.val + 1024 * (L 0).val + 128 * t.val, 0]
theorem outOff_inb (L : grid0.Coords) (t : Fin 8) (k : Fin 3) : ∀ a, outOff L t k a + S1x128x128.size a ≤ S16x6144x128.size a := by
  have h0 := L0_lt L; have h1 := L1_lt L; have ht := t.isLt; have hk := k.isLt
  intro a
  match a with
  | 0 => show (L 1).val + 1 ≤ 16; omega
  | 1 => show 2048 * k.val + 1024 * (L 0).val + 128 * t.val + 128 ≤ 6144; omega
  | 2 => show 0 + 128 ≤ 128; omega
/-- The block of the result that chunk `t`'s plane `k` goes to. -/
abbrev outM (L : grid0.Coords) (t : Fin 8) (k : Fin 3) : Memref sig .scVector .hbm S128x128 .f32 :=
  ((oV : Memref sig .scVector .hbm S16x6144x128 .f32).slice (Rect.unit (s := S16x6144x128) (outOff L t k) S1x128x128.size (outOff_inb L t k))
    (fun _ => rfl)).squeeze S128x128 squeezes_S1x128x128_S128x128

abbrev bufOff (k : Fin 3) : Fin 3 → ℕ := ![k.val, 0, 0]
theorem bufOff_inb (k : Fin 3) : ∀ a, bufOff k a + S1x128x128.size a ≤ S3x128x128.size a := by
  have hk := k.isLt
  intro a
  match a with
  | 0 => show k.val + 1 ≤ 3; omega
  | 1 => show 0 + 128 ≤ 128; omega
  | 2 => show 0 + 128 ≤ 128; omega
/-- Plane `k` of the even chunks' buffer, and of the odd chunks'. -/
abbrev planeA (k : Fin 3) : Memref sig .scVector .vmem S128x128 .f32 :=
  ((bA : Memref sig .scVector .vmem S3x128x128 .f32).slice (Rect.unit (s := S3x128x128) (bufOff k) S1x128x128.size (bufOff_inb k))
    (fun _ => rfl)).squeeze S128x128 squeezes_S1x128x128_S128x128
abbrev planeB (k : Fin 3) : Memref sig .scVector .vmem S128x128 .f32 :=
  ((bB : Memref sig .scVector .vmem S3x128x128 .f32).slice (Rect.unit (s := S3x128x128) (bufOff k) S1x128x128.size (bufOff_inb k))
    (fun _ => rfl)).squeeze S128x128 squeezes_S1x128x128_S128x128

/-- The elements of the result's block (`b`, `k`, `c`, `t`). -/
def outSet (b k c t : ℕ) : Finset S16x6144x128.Idx :=
  Finset.univ.filter fun x => (x 0).val = b ∧ (x 1).val / 128 = 16 * k + 8 * c + t
/-- The elements of plane `k`. -/
def bufSet (k : ℕ) : Finset S3x128x128.Idx := Finset.univ.filter fun x => (x 0).val = k

theorem set_outM (L : grid0.Coords) (t : Fin 8) (k : Fin 3) : (outM L t k).view.set = outSet (L 1).val k.val (L 0).val t.val := by
  show (((oV : Memref sig .scVector .hbm S16x6144x128 .f32).view.slice (Rect.unit (s := S16x6144x128) (outOff L t k) S1x128x128.size (outOff_inb L t k))).reshape S128x128
    squeezes_S1x128x128_S128x128.numel_eq).set = _
  rw [View.set_reshape]
  erw [View.set_slice_whole]
  ext x
  have h0 := L0_lt L; have h1 := L1_lt L; have ht := t.isLt; have hk := k.isLt
  have x0 : (x 0).val < 16 := (x 0).isLt
  have x1 : (x 1).val < 6144 := (x 1).isLt
  have x2 : (x 2).val < 128 := (x 2).isLt
  unfold outSet
  rw [Rect.mem_set_unit, Finset.mem_filter]
  constructor
  · intro h
    have e0 : (L 1).val ≤ (x 0).val ∧ (x 0).val < (L 1).val + 1 := h 0
    have e1 : 2048 * k.val + 1024 * (L 0).val + 128 * t.val ≤ (x 1).val
      ∧ (x 1).val < 2048 * k.val + 1024 * (L 0).val + 128 * t.val + 128 := h 1
    exact ⟨Finset.mem_univ _, by omega, by omega⟩
  · rintro ⟨-, e0, e1⟩ a
    match a with
    | 0 => show (L 1).val ≤ (x 0).val ∧ (x 0).val < (L 1).val + 1; omega
    | 1 => show 2048 * k.val + 1024 * (L 0).val + 128 * t.val ≤ (x 1).val
             ∧ (x 1).val < 2048 * k.val + 1024 * (L 0).val + 128 * t.val + 128; omega
    | 2 => show 0 ≤ (x 2).val ∧ (x 2).val < 0 + 128; omega

theorem set_planeRect (k : Fin 3) : (Rect.unit (s := S3x128x128) (bufOff k) S1x128x128.size (bufOff_inb k)).set = bufSet k.val := by
  ext x
  have hk := k.isLt
  have x0 : (x 0).val < 3 := (x 0).isLt
  have x1 : (x 1).val < 128 := (x 1).isLt
  have x2 : (x 2).val < 128 := (x 2).isLt
  unfold bufSet
  rw [Rect.mem_set_unit, Finset.mem_filter]
  constructor
  · intro h
    have e0 : k.val ≤ (x 0).val ∧ (x 0).val < k.val + 1 := h 0
    exact ⟨Finset.mem_univ _, by omega⟩
  · rintro ⟨-, e0⟩ a
    match a with
    | 0 => show k.val ≤ (x 0).val ∧ (x 0).val < k.val + 1; omega
    | 1 => show 0 ≤ (x 1).val ∧ (x 1).val < 0 + 128; omega
    | 2 => show 0 ≤ (x 2).val ∧ (x 2).val < 0 + 128; omega
theorem set_planeA (k : Fin 3) : (planeA k).view.set = bufSet k.val := by
  show (((bA : Memref sig .scVector .vmem S3x128x128 .f32).view.slice (Rect.unit (s := S3x128x128) (bufOff k) S1x128x128.size (bufOff_inb k))).reshape S128x128
    squeezes_S1x128x128_S128x128.numel_eq).set = _
  rw [View.set_reshape]
  erw [View.set_slice_whole]
  exact set_planeRect k
theorem set_planeB (k : Fin 3) : (planeB k).view.set = bufSet k.val := by
  show (((bB : Memref sig .scVector .vmem S3x128x128 .f32).view.slice (Rect.unit (s := S3x128x128) (bufOff k) S1x128x128.size (bufOff_inb k))).reshape S128x128
    squeezes_S1x128x128_S128x128.numel_eq).set = _
  rw [View.set_reshape]
  erw [View.set_slice_whole]
  exact set_planeRect k

/-- Row `r`, position `s` of a plane, in the buffer and in the result. -/
abbrev ix3 {a b c : ℕ} (x : Fin a) (y : Fin b) (z : Fin c) : (⟨3, ![a, b, c]⟩ : Shape).Idx :=
  fun | 0 => x | 1 => y | 2 => z

theorem reshape_eq (j : S128x128.Idx) :
    Shape.reshapeEquiv squeezes_S1x128x128_S128x128.numel_eq j = (Fin.cons ⟨0, Nat.one_pos⟩ j : S1x128x128.Idx) :=
  Shape.reshapeEquiv_cons_one (n := 2) (d := ![128, 128]) squeezes_S1x128x128_S128x128.numel_eq j

theorem emb_planeA (k : Fin 3) (j : S128x128.Idx) : (planeA k).view.emb j = ix3 k (j 0) (j 1) := by
  have e : (planeA k).view.emb j = (Rect.unit (s := S3x128x128) (bufOff k) S1x128x128.size (bufOff_inb k)).emb
      (Shape.reshapeEquiv squeezes_S1x128x128_S128x128.numel_eq j) := rfl
  rw [e, reshape_eq]
  funext a; apply Fin.ext
  rw [ValueKit.rect_emb_unit_val]
  match a with
  | 0 => show k.val + 0 = k.val; omega
  | 1 => show 0 + (j 0).val = (j 0).val; omega
  | 2 => show 0 + (j 1).val = (j 1).val; omega
theorem emb_planeB (k : Fin 3) (j : S128x128.Idx) : (planeB k).view.emb j = ix3 k (j 0) (j 1) := emb_planeA k j

theorem emb_outM (L : grid0.Coords) (t : Fin 8) (k : Fin 3) (j : S128x128.Idx) :
    ((outM L t k).view.emb j 0).val = (L 1).val
      ∧ ((outM L t k).view.emb j 1).val = 2048 * k.val + 1024 * (L 0).val + 128 * t.val + (j 0).val
      ∧ ((outM L t k).view.emb j 2).val = (j 1).val := by
  have e : (outM L t k).view.emb j = (Rect.unit (s := S16x6144x128) (outOff L t k) S1x128x128.size (outOff_inb L t k)).emb
      (Shape.reshapeEquiv squeezes_S1x128x128_S128x128.numel_eq j) := rfl
  rw [e, reshape_eq]
  refine ⟨?_, ?_, ?_⟩ <;> rw [ValueKit.rect_emb_unit_val]
  · show (L 1).val + 0 = _; omega
  · show 2048 * k.val + 1024 * (L 0).val + 128 * t.val + (j 0).val = _; omega
  · show 0 + (j 1).val = _; omega

/-! ## What the result holds -/

/-- The hash words of batch row `b`. -/
def rowWords (h : Vec F S8192 .i32) (b : Fin 16) : Vec F S512 .i32 :=
  fun y => h (fun | 0 => ⟨512 * b.val + (y 0).val, by
    have hb := b.isLt
    have hy : (y 0).val < 512 := (y 0).isLt
    show 512 * b.val + (y 0).val < 8192; omega⟩)

/-- The grid point (`c`, `b`). -/
abbrev gp (c : Fin 2) (b : Fin 16) : grid0.Coords :=
  fun | 0 => c | 1 => b | ⟨_ + 2, h⟩ => absurd h (Nat.not_lt.2 (Nat.le_add_left _ _))
theorem gp_eta (L : grid0.Coords) : gp (L 0) (L 1) = L := by
  funext a; match a with | 0 => rfl | 1 => rfl

variable [FloatOps F]

/-- The result the tiles leave, of the flat hash words: element (`b`, `q`, `s`) is the element (`q / 2048`, `q % 128`,
    `s`) of what the buffer holds when the chunk of bucket `q % 2048` leaves its tile. -/
def outOf (h : Vec F S8192 .i32) : Vec F S16x6144x128 .f32 := fun x =>
  bufAt (gp ⟨(x 1).val % 2048 / 1024, by omega⟩ (x 0)) (rowWords h (x 0)) ((x 1).val % 1024 / 128)
    (ix3 (⟨(x 1).val / 2048, by have : (x 1).val < 6144 := (x 1).isLt; omega⟩ : Fin 3) (⟨(x 1).val % 128, by omega⟩ : Fin 128) (x 2))

theorem outOf_emb (h : Vec F S8192 .i32) (L : grid0.Coords) (t : Fin 8) (k : Fin 3) (j : S128x128.Idx) :
    outOf h ((outM L t k).view.emb j) = bufAt L (rowWords h (L 1)) t.val (ix3 k (j 0) (j 1)) := by
  obtain ⟨e0, e1, e2⟩ := emb_outM L t k j
  have h0 := L0_lt L; have h1 := L1_lt L; have ht := t.isLt; have hk := k.isLt
  have j0 : (j 0).val < 128 := (j 0).isLt
  have E0 : (outM L t k).view.emb j 0 = L 1 := Fin.ext e0
  have key : ∀ (x : S16x6144x128.Idx), x 0 = L 1 → (x 1).val = 2048 * k.val + 1024 * (L 0).val + 128 * t.val + (j 0).val →
      (x 2).val = (j 1).val → outOf h x = bufAt L (rowWords h (L 1)) t.val (ix3 k (j 0) (j 1)) := by
    intro x hx0 hx1 hx2
    unfold outOf
    have c1 : (⟨(x 1).val % 2048 / 1024, by omega⟩ : Fin 2) = L 0 := Fin.ext (by show (x 1).val % 2048 / 1024 = (L 0).val; omega)
    have c2 : (x 1).val % 1024 / 128 = t.val := by omega
    have c3 : (⟨(x 1).val / 2048, by have : (x 1).val < 6144 := (x 1).isLt; omega⟩ : Fin 3) = k := Fin.ext (by show (x 1).val / 2048 = k.val; omega)
    have c4 : (⟨(x 1).val % 128, by omega⟩ : Fin 128) = j 0 := Fin.ext (by show (x 1).val % 128 = (j 0).val; omega)
    have c5 : x 2 = j 1 := Fin.ext hx2
    rw [c1, c2, c3, c4, c5, hx0]
    exact congrArg (fun G => bufAt G (rowWords h (L 1)) t.val (ix3 k (j 0) (j 1))) (gp_eta L)
  exact key _ E0 e1 e2

/-! ## One copy out, and one wait for it -/

section Copies

variable (d : Dev nD) (L : grid0.Coords)

/-- A copy's credit. -/
abbrev NO : ℕ := (outM (gp 0 0) 0 0).view.dmaCredit
theorem NO_pos : 0 < NO := View.dmaCredit_pos _ (by decide)

/-- What chunk `t`'s copy of plane `k` hands back: its block of the result at its final contents, and the plane `src`. -/
abbrev landed (h : Vec F S8192 .i32) (t : Fin 8) (src : Fin 3 → Memref sig .scVector .vmem S128x128 .f32)
    (b : (k : Fin 3) → Buf (Elt F) ((src k).view.loc (thr d L))) (k : Fin 3) : sProp 𝕄 :=
  iprop(((outM L t k).view.loc (thr d L) ↦[(outM L t k).view.set]{fullShare} outOf h)
    ∗ ((src k).view.loc (thr d L) ↦[(src k).view.set]{fullShare} b k))

/-- Starting copy `k` of chunk `t`, the plane holding what the result's block is to hold. -/
theorem send (h : Vec F S8192 .i32) (t : Fin 8) (src : Fin 3 → Memref sig .scVector .vmem S128x128 .f32)
    (b : (k : Fin 3) → Buf (Elt F) ((src k).view.loc (thr d L))) (k : Fin 3) (sem : DmaSem sig)
    (hb : ∀ j, (src k).view.read (Elt F) (b k) j = bufAt L (rowWords h (L 1)) t.val (ix3 k (j 0) (j 1)))
    {fd : Buf (Elt F) ((outM L t k).view.loc (thr d L))} {α : Type} {Q : α → sProp 𝕄}
    {hsrc : (src k).view.WordExact} {hdst : (outM L t k).view.WordExact}
    {hsem : DmaTarget.Typed (nD := nD) (τ := τ) (p := (thr d L).2) .vmem (SemLoc.dma sem) (.here (outM L t k))}
    {kk : PUnit → Prog (TpuEff nD τ sig (Elt F) Λ₀ (thr d L).2) α} :
    iprop(((src k).view.loc (thr d L) ↦[(src k).view.set]{fullShare} b k)
        ∗ ((outM L t k).view.loc (thr d L) ↦[(outM L t k).view.set]{fullShare} fd)
        ∗ Transfers.Batch EC (thr d L) (.dma sem) (none : HIx 1) NO (landed d L h t src b) k.val 0)
      ⊢ iprop((Transfers.Batch EC (thr d L) (.dma sem) (none : HIx 1) NO (landed d L h t src b) (k.val + 1) 0
            -∗ wp frame (wpE (defs₀ (F := F)) 𝒱₀ (thr d L) none) Set.univ (kk ⟨⟩) Q)
          -∗ wp frame (wpE (defs₀ (F := F)) 𝒱₀ (thr d L) none) Set.univ
            (.op (TpuEff.enqueueDma (src k) (.here (outM L t k)) (.dma sem) hsrc hdst hsem) kk) Q) := by
  refine Transfers.wp_dmaBatch EC 𝒱₀ (thr d L) none (none : HIx 1) NO rfl (Finset.Subset.refl _) k.isLt (Nat.zero_le _) ?_
  iintro ⟨Ho, Hs⟩
  isplitl [Ho]
  · iapply (Entails.of_eq (pointsTo_congr (I := (outM L t k).view.set) (q := fullShare) (g := outOf h) ?_)) $$ Ho
    intro i hi
    obtain ⟨j, -, rfl⟩ := Finset.mem_map.mp hi
    rw [View.write_emb_of_mem _ _ (Finset.mem_univ j)]
    refine Eq.trans ?_ (outOf_emb h L t k j).symm
    refine Eq.trans ?_ (hb j)
    rfl
  · iexact Hs

end Copies

end Cert.Proof.Hist

end
-- ==== Proof.Loops.lean ====
/-
  The scatter loops run: one lane group's gather and three indexed additions (`partA_run` in the even chunks' buffer,
  `partB_run` in the odd chunks'), and the three nested loops around them (`chunkA_run`, `chunkB_run`), each leaving
  the buffer at the contents Scatter.lean names.
-/
module

public import proofs.«01_k».proof.Proof.Base

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

variable (d : Dev nD) (L : grid0.Coords)

/-- The tile's hash words, and its two count buffers, held whole. -/
abbrev wPts (hv : Vec F S512 .i32) : sProp 𝕄 := (thr d L).loc cc0_scratch0 ↦{fullShare} hv
abbrev aPts (b : Vec F S3x128x128 .f32) : sProp 𝕄 := (thr d L).loc cc0_scratch1 ↦{fullShare} b
abbrev bPts (b : Vec F S3x128x128 .f32) : sProp 𝕄 := (thr d L).loc cc0_scratch2 ↦{fullShare} b

/-- A counted loop of the tile, by an invariant of the trip. -/
theorem for_run {σ : Type} (l : Scf.Loop 32) (hok : l.OK) (init : σ)
    (body : Fin l.trips → σ → Prog (TpuEff nD τ sig (Elt F) Λ₀ (thr d L).2) σ) (I : ℕ → sProp 𝕄)
    (hbody : ∀ k acc, I k.val ⊢ wp frame (wpE (defs₀ (F := F)) 𝒱₀ (thr d L) none) Set.univ (body k acc) (fun _ => I (k.val + 1))) :
    I 0 ⊢ wp frame (wpE (defs₀ (F := F)) 𝒱₀ (thr d L) none) Set.univ (Scf.Loop.for l hok init body) (fun _ => I l.trips) := by
  refine BIBase.Entails.trans ?_ (Scf.wp_for frame (wpE (defs₀ (F := F)) 𝒱₀ (thr d L) none) Set.univ l.lb l.ub l.st hok init body
    (fun k _ => I k) hbody (Q := fun _ => I l.trips))
  iintro HI
  isplitl [HI]; · iexact HI
  iintro %_ HI
  iexact HI

/-- A gather of the tile's hash words. -/
theorem load_words {α : Type} {Q : α → sProp 𝕄} {idxs : Fin 1 → IVec S16 32} {h : ∀ a x, (idxs a x).toNat < S512.size a}
    {hl : (wV : Memref sig .scVector .vmem S512 .i32).view.Loads}
    {k : Vec F S16 .i32 → Prog (TpuEff nD τ sig (Elt F) Λ₀ (thr d L).2) α} (hv : Vec F S512 .i32) :
    wPts d L hv ⊢ iprop((wPts d L hv -∗ wp frame (wpE (defs₀ (F := F)) 𝒱₀ (thr d L) none) Set.univ (k (loadIdx hv idxs h)) Q)
      -∗ wp frame (wpE (defs₀ (F := F)) 𝒱₀ (thr d L) none) Set.univ (SparseCore.vectorLoadIdx (wV : Memref sig .scVector .vmem S512 .i32) idxs h hl >>= k) Q) := by
  have := SparseCore.wp_vectorLoadIdx (defs := defs₀ (F := F)) 𝒱₀ (thr d L) none Set.univ (base := (wV : Memref sig .scVector .vmem S512 .i32))
    (idxs := idxs) (h := h) (hl := hl) (k := k) (Q := Q) (S := Finset.univ) (q := fullShare) (f := hv) (Finset.subset_univ _)
  have e : ((wV : Memref sig .scVector .vmem S512 .i32).access (Rect.whole S512)).read (Elt F) hv = hv := Memref.read_access_whole (Elt F) cc0_scratch0 hv
  rw [e] at this
  exact this

/-- An indexed addition into the even chunks' buffer. -/
theorem store_A {α : Type} {Q : α → sProp 𝕄} {idxs : Fin 3 → IVec S16 32} {v : FVec F S16 .f32} {mask : IVec S16 1} {add : Bool}
    {h : ∀ a x, (idxs a x).toNat < S3x128x128.size a}
    {hs : ((bA : Memref sig .scVector .vmem S3x128x128 .f32).access (.whole S3x128x128)).Stores Finset.univ}
    {k : PUnit → Prog (TpuEff nD τ sig (Elt F) Λ₀ (thr d L).2) α} (b : Vec F S3x128x128 .f32) :
    aPts d L b ⊢ iprop((aPts d L (storeIdx (F := F) (e := .f32) b idxs v mask add h)
        -∗ wp frame (wpE (defs₀ (F := F)) 𝒱₀ (thr d L) none) Set.univ (k ⟨⟩) Q)
      -∗ wp frame (wpE (defs₀ (F := F)) 𝒱₀ (thr d L) none) Set.univ
        (SparseCore.vectorStoreIdx (bA : Memref sig .scVector .vmem S3x128x128 .f32) idxs v mask add h hs >>= k) Q) := by
  have := SparseCore.wp_vectorStoreIdx (defs := defs₀ (F := F)) 𝒱₀ (thr d L) none Set.univ (base := (bA : Memref sig .scVector .vmem S3x128x128 .f32))
    (idxs := idxs) (v := v) (mask := mask) (add := add) (h := h) (hs := hs) (k := k) (Q := Q) (f := b)
  have e : ((bA : Memref sig .scVector .vmem S3x128x128 .f32).access (Rect.whole S3x128x128)).read (Elt F) b = b :=
    Memref.read_access_whole (Elt F) cc0_scratch1 b
  have e' : ∀ w : Vec F S3x128x128 .f32, ((bA : Memref sig .scVector .vmem S3x128x128 .f32).access (Rect.whole S3x128x128)).write (Elt F) b w Finset.univ = w :=
    fun w => Memref.write_access_whole_univ (Elt F) cc0_scratch1 b w
  have e'' : ((bA : Memref sig .scVector .vmem S3x128x128 .f32).access (Rect.whole S3x128x128)).set = Finset.univ := Memref.set_access_whole cc0_scratch1
  rw [e, e', e''] at this
  exact this

/-- An indexed addition into the odd chunks' buffer. -/
theorem store_B {α : Type} {Q : α → sProp 𝕄} {idxs : Fin 3 → IVec S16 32} {v : FVec F S16 .f32} {mask : IVec S16 1} {add : Bool}
    {h : ∀ a x, (idxs a x).toNat < S3x128x128.size a}
    {hs : ((bB : Memref sig .scVector .vmem S3x128x128 .f32).access (.whole S3x128x128)).Stores Finset.univ}
    {k : PUnit → Prog (TpuEff nD τ sig (Elt F) Λ₀ (thr d L).2) α} (b : Vec F S3x128x128 .f32) :
    bPts d L b ⊢ iprop((bPts d L (storeIdx (F := F) (e := .f32) b idxs v mask add h)
        -∗ wp frame (wpE (defs₀ (F := F)) 𝒱₀ (thr d L) none) Set.univ (k ⟨⟩) Q)
      -∗ wp frame (wpE (defs₀ (F := F)) 𝒱₀ (thr d L) none) Set.univ
        (SparseCore.vectorStoreIdx (bB : Memref sig .scVector .vmem S3x128x128 .f32) idxs v mask add h hs >>= k) Q) := by
  have := SparseCore.wp_vectorStoreIdx (defs := defs₀ (F := F)) 𝒱₀ (thr d L) none Set.univ (base := (bB : Memref sig .scVector .vmem S3x128x128 .f32))
    (idxs := idxs) (v := v) (mask := mask) (add := add) (h := h) (hs := hs) (k := k) (Q := Q) (f := b)
  have e : ((bB : Memref sig .scVector .vmem S3x128x128 .f32).access (Rect.whole S3x128x128)).read (Elt F) b = b :=
    Memref.read_access_whole (Elt F) cc0_scratch2 b
  have e' : ∀ w : Vec F S3x128x128 .f32, ((bB : Memref sig .scVector .vmem S3x128x128 .f32).access (Rect.whole S3x128x128)).write (Elt F) b w Finset.univ = w :=
    fun w => Memref.write_access_whole_univ (Elt F) cc0_scratch2 b w
  have e'' : ((bB : Memref sig .scVector .vmem S3x128x128 .f32).access (Rect.whole S3x128x128)).set = Finset.univ := Memref.set_access_whole cc0_scratch2
  rw [e, e', e''] at this
  exact this

/-! ## The even chunks' buffer -/

/-- One lane group in the even chunks' buffer. -/
theorem partA_run (t : Fin k0_t2_loop.trips) (h1 : k0_cond1 t = 1#1) (n : Fin k0_t4_loop.trips) (j : Fin k0_t5_loop.trips)
    (mm : BitVec 32) (en : BitVec 1) (v : FVec F S16 .f32) (hv : Vec F S512 .i32) (b : Vec F S3x128x128 .f32) :
    iprop(wPts d L hv ∗ aPts d L b)
      ⊢ wp frame (wpE (defs₀ (F := F)) 𝒱₀ (thr d L) none) Set.univ
          (k0_part3 (F := F) L hV (Memref.isWhole_whole _) oV (Memref.isWhole_whole _) wV (Memref.isWhole_whole _) bA (Memref.isWhole_whole _) bB (Memref.isWhole_whole _) cc0_scratch3 cc0_scratch4 cc0_scratch5
            lanes k0_pay28 t h1 mm en v (k0_pay13 k0_pay28 n) 0#32 1#32 j)
          (fun _ => iprop(wPts d L hv ∗ aPts d L (step3 hv mm en v n j b))) := by
  iintro ⟨Hw, Hb⟩
  simp only [k0_part3_eq_skeleton]
  unfold k0_part3_skel
  simp only [Prog.lift, Prog.bind_op, Prog.bind_ret]
  rw [wp_assume_of 𝒱₀ (thr d L) none Set.univ (h := ?h1)]
  case h1 => exact fun _ => word_inb n j
  iapply (load_words d L hv) $$ Hw; iintro Hw
  simp only [Prog.bind_op, Prog.bind_ret]
  rw [wp_assume_of 𝒱₀ (thr d L) none Set.univ (h := ?h2)]
  case h2 => exact fun _ => inb0 mm (words hv n j) (pos j)
  iapply (store_A d L b) $$ Hb; iintro Hb
  simp only [Prog.bind_op, Prog.bind_ret]
  rw [wp_assume_of 𝒱₀ (thr d L) none Set.univ (h := ?h3)]
  case h3 => exact fun _ => inb1 mm (words hv n j) j
  iapply (store_A d L _) $$ Hb; iintro Hb
  simp only [Prog.bind_op, Prog.bind_ret]
  rw [wp_assume_of 𝒱₀ (thr d L) none Set.univ (h := ?h4)]
  case h4 => exact fun _ => inb2 mm (words hv n j) (pos j)
  iapply (store_A d L _) $$ Hb; iintro Hb
  rw [wp_pure]
  imodintro
  isplitl [Hw]; · iexact Hw
  iexact Hb

/-- The lane groups of plane `n`. -/
theorem groupsA_run (t : Fin k0_t2_loop.trips) (h1 : k0_cond1 t = 1#1) (arg10 v75 : BitVec 32) (q : Fin k0_t3_loop.trips) (n : Fin k0_t4_loop.trips)
    (mm : BitVec 32) (en : BitVec 1) (hv : Vec F S512 .i32) (b : Vec F S3x128x128 .f32) :
    iprop(wPts d L hv ∗ aPts d L b)
      ⊢ wp frame (wpE (defs₀ (F := F)) 𝒱₀ (thr d L) none) Set.univ
          (Scf.Loop.for k0_t5_loop (k0_t5_ok t h1) 0#32 (k0_t5_body L hV (Memref.isWhole_whole _) oV (Memref.isWhole_whole _) wV (Memref.isWhole_whole _) bA (Memref.isWhole_whole _) bB (Memref.isWhole_whole _) cc0_scratch3 cc0_scratch4 cc0_scratch5
            lanes k0_pay28 t arg10 v75 h1 q mm en n))
          (fun _ => iprop(wPts d L hv ∗ aPts d L (passJ hv mm en (k0_pay12 q) n k0_t5_loop.trips b))) := by
  refine for_run d L _ _ _ _ (fun k => iprop(wPts d L hv ∗ aPts d L (passJ hv mm en (k0_pay12 q) n k b))) ?_
  intro j acc
  unfold k0_t5_body
  rw [wp_bind]
  refine (partA_run d L t h1 n j mm en (k0_pay12 q) hv _).trans (wp_mono _ _ _ fun _ => ?_)
  rw [wp_pure]
  refine BIBase.Entails.trans (Entails.of_eq ?_) fupd_intro
  unfold passJ
  rw [iter_succ]

/-- The planes of pass `q`. -/
theorem planesA_run (t : Fin k0_t2_loop.trips) (h1 : k0_cond1 t = 1#1) (arg10 v75 : BitVec 32) (q : Fin k0_t3_loop.trips)
    (mm : BitVec 32) (en : BitVec 1) (hv : Vec F S512 .i32) (b : Vec F S3x128x128 .f32) :
    iprop(wPts d L hv ∗ aPts d L b)
      ⊢ wp frame (wpE (defs₀ (F := F)) 𝒱₀ (thr d L) none) Set.univ
          (Scf.Loop.for k0_t4_loop (k0_t4_ok t h1) 0#32 (k0_t4_body L hV (Memref.isWhole_whole _) oV (Memref.isWhole_whole _) wV (Memref.isWhole_whole _) bA (Memref.isWhole_whole _) bB (Memref.isWhole_whole _) cc0_scratch3 cc0_scratch4 cc0_scratch5
            lanes k0_pay28 t arg10 v75 h1 q mm en))
          (fun _ => iprop(wPts d L hv ∗ aPts d L (passN hv mm en (k0_pay12 q) k0_t4_loop.trips b))) := by
  refine for_run d L _ _ _ _ (fun k => iprop(wPts d L hv ∗ aPts d L (passN hv mm en (k0_pay12 q) k b))) ?_
  intro n acc
  unfold k0_t4_body
  rw [wp_bind]
  refine (groupsA_run d L t h1 arg10 v75 q n mm en hv _).trans (wp_mono _ _ _ fun _ => ?_)
  rw [wp_pure]
  refine BIBase.Entails.trans (Entails.of_eq ?_) fupd_intro
  unfold passN
  rw [iter_succ]

/-- Both passes of chunk `t`. -/
theorem chunkA_run (t : Fin k0_t2_loop.trips) (h1 : k0_cond1 t = 1#1) (hv : Vec F S512 .i32) (b : Vec F S3x128x128 .f32) :
    iprop(wPts d L hv ∗ aPts d L b)
      ⊢ wp frame (wpE (defs₀ (F := F)) 𝒱₀ (thr d L) none) Set.univ
          (Scf.Loop.for k0_t3_loop (k0_t3_ok t h1) 0#32 (k0_t3_body L hV (Memref.isWhole_whole _) oV (Memref.isWhole_whole _) wV (Memref.isWhole_whole _) bA (Memref.isWhole_whole _) bB (Memref.isWhole_whole _) cc0_scratch3 cc0_scratch4 cc0_scratch5
            lanes k0_pay28 t (cnt t) (base L t) h1))
          (fun _ => iprop(wPts d L hv ∗ aPts d L (chunk L hv t.val b))) := by
  rw [chunk_eq]
  refine for_run d L _ _ _ _ (fun k => iprop(wPts d L hv ∗ aPts d L (chunkK L hv t k b))) ?_
  intro q acc
  unfold k0_t3_body
  rw [wp_bind]
  refine (planesA_run d L t h1 (cnt t) (base L t) q _ _ hv _).trans (wp_mono _ _ _ fun _ => ?_)
  rw [wp_pure]
  refine BIBase.Entails.trans (Entails.of_eq ?_) fupd_intro
  unfold chunkK
  rw [iter_succ]
  rfl

/-! ## The odd chunks' buffer -/

/-- One lane group in the odd chunks' buffer. -/
theorem partB_run (t : Fin k0_t2_loop.trips) (h1 : k0_cond3 t = 1#1) (n : Fin k0_t4_loop.trips) (j : Fin k0_t5_loop.trips)
    (mm : BitVec 32) (en : BitVec 1) (v : FVec F S16 .f32) (hv : Vec F S512 .i32) (b : Vec F S3x128x128 .f32) :
    iprop(wPts d L hv ∗ bPts d L b)
      ⊢ wp frame (wpE (defs₀ (F := F)) 𝒱₀ (thr d L) none) Set.univ
          (k0_part7 (F := F) L hV (Memref.isWhole_whole _) oV (Memref.isWhole_whole _) wV (Memref.isWhole_whole _) bA (Memref.isWhole_whole _) bB (Memref.isWhole_whole _) cc0_scratch3 cc0_scratch4 cc0_scratch5
            lanes k0_pay28 t h1 mm en v (k0_pay13 k0_pay28 n) 0#32 1#32 j)
          (fun _ => iprop(wPts d L hv ∗ bPts d L (step3 hv mm en v n j b))) := by
  iintro ⟨Hw, Hb⟩
  simp only [k0_part7_eq_skeleton]
  unfold k0_part7_skel
  simp only [Prog.lift, Prog.bind_op, Prog.bind_ret]
  rw [wp_assume_of 𝒱₀ (thr d L) none Set.univ (h := ?h1)]
  case h1 => exact fun _ => word_inb n j
  iapply (load_words d L hv) $$ Hw; iintro Hw
  simp only [Prog.bind_op, Prog.bind_ret]
  rw [wp_assume_of 𝒱₀ (thr d L) none Set.univ (h := ?h2)]
  case h2 => exact fun _ => inb0 mm (words hv n j) (pos j)
  iapply (store_B d L b) $$ Hb; iintro Hb
  simp only [Prog.bind_op, Prog.bind_ret]
  rw [wp_assume_of 𝒱₀ (thr d L) none Set.univ (h := ?h3)]
  case h3 => exact fun _ => inb1 mm (words hv n j) j
  iapply (store_B d L _) $$ Hb; iintro Hb
  simp only [Prog.bind_op, Prog.bind_ret]
  rw [wp_assume_of 𝒱₀ (thr d L) none Set.univ (h := ?h4)]
  case h4 => exact fun _ => inb2 mm (words hv n j) (pos j)
  iapply (store_B d L _) $$ Hb; iintro Hb
  rw [wp_pure]
  imodintro
  isplitl [Hw]; · iexact Hw
  iexact Hb

/-- The lane groups of plane `n`. -/
theorem groupsB_run (t : Fin k0_t2_loop.trips) (h1 : k0_cond3 t = 1#1) (arg10 v75 : BitVec 32) (q : Fin k0_t7_loop.trips) (n : Fin k0_t4_loop.trips)
    (mm : BitVec 32) (en : BitVec 1) (hv : Vec F S512 .i32) (b : Vec F S3x128x128 .f32) :
    iprop(wPts d L hv ∗ bPts d L b)
      ⊢ wp frame (wpE (defs₀ (F := F)) 𝒱₀ (thr d L) none) Set.univ
          (Scf.Loop.for k0_t9_loop (k0_t9_ok t h1) 0#32 (k0_t9_body L hV (Memref.isWhole_whole _) oV (Memref.isWhole_whole _) wV (Memref.isWhole_whole _) bA (Memref.isWhole_whole _) bB (Memref.isWhole_whole _) cc0_scratch3 cc0_scratch4 cc0_scratch5
            lanes (k0_pay27 (F := F)) k0_pay28 t arg10 v75 h1 q mm en n))
          (fun _ => iprop(wPts d L hv ∗ bPts d L (passJ hv mm en (k0_pay12 q) n k0_t5_loop.trips b))) := by
  refine for_run d L _ _ _ _ (fun k => iprop(wPts d L hv ∗ bPts d L (passJ hv mm en (k0_pay12 q) n k b))) ?_
  intro j acc
  unfold k0_t9_body
  rw [wp_bind]
  refine (partB_run d L t h1 n j mm en (k0_pay12 q) hv _).trans (wp_mono _ _ _ fun _ => ?_)
  rw [wp_pure]
  refine BIBase.Entails.trans (Entails.of_eq ?_) fupd_intro
  unfold passJ
  rw [iter_succ]

/-- The planes of pass `q`. -/
theorem planesB_run (t : Fin k0_t2_loop.trips) (h1 : k0_cond3 t = 1#1) (arg10 v75 : BitVec 32) (q : Fin k0_t7_loop.trips)
    (mm : BitVec 32) (en : BitVec 1) (hv : Vec F S512 .i32) (b : Vec F S3x128x128 .f32) :
    iprop(wPts d L hv ∗ bPts d L b)
      ⊢ wp frame (wpE (defs₀ (F := F)) 𝒱₀ (thr d L) none) Set.univ
          (Scf.Loop.for k0_t8_loop (k0_t8_ok t h1) 0#32 (k0_t8_body L hV (Memref.isWhole_whole _) oV (Memref.isWhole_whole _) wV (Memref.isWhole_whole _) bA (Memref.isWhole_whole _) bB (Memref.isWhole_whole _) cc0_scratch3 cc0_scratch4 cc0_scratch5
            lanes (k0_pay27 (F := F)) k0_pay28 t arg10 v75 h1 q mm en))
          (fun _ => iprop(wPts d L hv ∗ bPts d L (passN hv mm en (k0_pay12 q) k0_t4_loop.trips b))) := by
  refine for_run d L _ _ _ _ (fun k => iprop(wPts d L hv ∗ bPts d L (passN hv mm en (k0_pay12 q) k b))) ?_
  intro n acc
  unfold k0_t8_body
  rw [wp_bind]
  refine (groupsB_run d L t h1 arg10 v75 q n mm en hv _).trans (wp_mono _ _ _ fun _ => ?_)
  rw [wp_pure]
  refine BIBase.Entails.trans (Entails.of_eq ?_) fupd_intro
  unfold passN
  rw [iter_succ]

/-- Both passes of chunk `t`. -/
theorem chunkB_run (t : Fin k0_t2_loop.trips) (h1 : k0_cond3 t = 1#1) (hv : Vec F S512 .i32) (b : Vec F S3x128x128 .f32) :
    iprop(wPts d L hv ∗ bPts d L b)
      ⊢ wp frame (wpE (defs₀ (F := F)) 𝒱₀ (thr d L) none) Set.univ
          (Scf.Loop.for k0_t7_loop (k0_t7_ok t h1) 0#32 (k0_t7_body L hV (Memref.isWhole_whole _) oV (Memref.isWhole_whole _) wV (Memref.isWhole_whole _) bA (Memref.isWhole_whole _) bB (Memref.isWhole_whole _) cc0_scratch3 cc0_scratch4 cc0_scratch5
            lanes (k0_pay27 (F := F)) k0_pay28 t (cnt t) (base L t) h1))
          (fun _ => iprop(wPts d L hv ∗ bPts d L (chunk L hv t.val b))) := by
  rw [chunk_eq]
  refine for_run d L _ _ _ _ (fun k => iprop(wPts d L hv ∗ bPts d L (chunkK L hv t k b))) ?_
  intro q acc
  unfold k0_t7_body
  rw [wp_bind]
  refine (planesB_run d L t h1 (cnt t) (base L t) q _ _ hv _).trans (wp_mono _ _ _ fun _ => ?_)
  rw [wp_pure]
  refine BIBase.Entails.trans (Entails.of_eq ?_) fupd_intro
  unfold chunkK
  rw [iter_succ]
  rfl

end Cert.Proof.Hist

end
-- ==== Proof.Zero.lean ====
/-
  The two zero loops run: a trip stores a lane group of zeros at each of its row's eight lane groups in each of the
  three planes, so the loop leaves its buffer all zeros, whatever it held.
-/
module

public import proofs.«01_k».proof.Proof.Loops

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

variable (d : Dev nD) (L : grid0.Coords)

/-- The rows below `t`, and of row `t` the first `m` of its 24 lane groups, plane by plane. -/
def Done (t m : ℕ) (x : S3x128x128.Idx) : Prop := (x 1).val < t ∨ ((x 1).val = t ∧ 8 * (x 0).val + (x 2).val / 16 < m)

omit [FloatOps F] in
theorem done_succ {t m : ℕ} {off : Fin 3 → ℕ} (ht : t < 128) (hm : m < 24) (hoff : off = ![m / 8, t, 16 * (m % 8)])
    (inb : ∀ a, off a + S1x1x16.size a ≤ S3x128x128.size a) (x : S3x128x128.Idx) (h : Done t (m + 1) x) :
    Done t m x ∨ x ∈ (Rect.unit (s := S3x128x128) off S1x1x16.size inb).set := by
  subst hoff
  have x0 : (x 0).val < 3 := (x 0).isLt
  have x2 : (x 2).val < 128 := (x 2).isLt
  rcases h with h | ⟨h1, h2⟩
  · exact Or.inl (Or.inl h)
  · by_cases hc : 8 * (x 0).val + (x 2).val / 16 < m
    · exact Or.inl (Or.inr ⟨h1, hc⟩)
    · right
      rw [Rect.mem_set_unit]
      intro a
      match a with
      | 0 => show m / 8 ≤ (x 0).val ∧ (x 0).val < m / 8 + 1; omega
      | 1 => show t ≤ (x 1).val ∧ (x 1).val < t + 1; omega
      | 2 => show 16 * (m % 8) ≤ (x 2).val ∧ (x 2).val < 16 * (m % 8) + 16; omega

omit [FloatOps F] in
theorem done_row {t : ℕ} (x : S3x128x128.Idx) (h : Done (t + 1) 0 x) : Done t 24 x := by
  have x0 : (x 0).val < 3 := (x 0).isLt
  have x2 : (x 2).val < 128 := (x 2).isLt
  rcases h with h | ⟨-, h⟩
  · by_cases hc : (x 1).val < t
    · exact Or.inl hc
    · exact Or.inr ⟨by omega, by omega⟩
  · omega

/-! ## The even chunks' buffer -/

/-- The even chunks' buffer holds zeros where `P` says. -/
def zeroA (P : S3x128x128.Idx → Prop) : sProp 𝕄 := iprop(∃ b : Vec F S3x128x128 .f32, ⌜∀ x, P x → b x = zeros x⌝ ∗ aPts d L b)

/-- One lane group's load and store of zeros. -/
theorem zeroA_step (t m : ℕ) (ht : t < 128) (hm : m < 24) {off : Fin 3 → ℕ} (hoff : off = ![m / 8, t, 16 * (m % 8)])
    {inb inb' : ∀ a, off a + S1x1x16.size a ≤ S3x128x128.size a} {α : Type} {Q : α → sProp 𝕄}
    {hl : (bA : Memref sig .scVector .vmem S3x128x128 .f32).view.LoadsAt (Rect.unit (s := S3x128x128) off S1x1x16.size inb).toLoadRect}
    {hx : ((bA : Memref sig .scVector .vmem S3x128x128 .f32).access (Rect.unit (s := S3x128x128) off S1x1x16.size inb')).Stores Finset.univ}
    {hm' : (Finset.univ : Finset (Rect.unit (s := S3x128x128) off S1x1x16.size inb').shape.Idx) = Finset.univ ∨
      ∀ a, (Rect.unit (s := S3x128x128) off S1x1x16.size inb').stride a = 1}
    {k : PUnit → Prog (TpuEff nD τ sig (Elt F) Λ₀ (thr d L).2) α} :
    zeroA d L (Done t m) ⊢ iprop((zeroA d L (Done t (m + 1)) -∗ wp frame (wpE (defs₀ (F := F)) 𝒱₀ (thr d L) none) Set.univ (k ⟨⟩) Q)
      -∗ wp frame (wpE (defs₀ (F := F)) 𝒱₀ (thr d L) none) Set.univ
        (.op (TpuEff.load (bA : Memref sig .scVector .vmem S3x128x128 .f32) (Rect.unit (s := S3x128x128) off S1x1x16.size inb).toLoadRect hl) fun _ =>
          .op (TpuEff.store (bA : Memref sig .scVector .vmem S3x128x128 .f32) (Rect.unit (s := S3x128x128) off S1x1x16.size inb')
            (shapeCast S1x1x16 (k0_pay27 (F := F)) shapeCasts_S16_S1x1x16) Finset.univ hx hm') k) Q) := by
  unfold zeroA
  iintro ⟨%b, %hb, Hb⟩ Hk
  iapply (wp_load 𝒱₀ (thr d L) none Set.univ (m := (bA : Memref sig .scVector .vmem S3x128x128 .f32)) (S := Finset.univ) (Finset.subset_univ _)) $$ Hb; iintro Hb
  iapply (wp_store 𝒱₀ (thr d L) none Set.univ (m := (bA : Memref sig .scVector .vmem S3x128x128 .f32))
    (r := Rect.unit (s := S3x128x128) off S1x1x16.size inb') (Mk := Finset.univ) (S := Finset.univ) (Finset.subset_univ _)) $$ Hb; iintro Hb
  iapply Hk
  iexists _
  isplitr [Hb]
  swap
  · iexact Hb
  ipureintro
  intro x hx'
  by_cases hin : x ∈ ((bA : Memref sig .scVector .vmem S3x128x128 .f32).access (Rect.unit (s := S3x128x128) off S1x1x16.size inb')).setOn Finset.univ
  · obtain ⟨j, -, rfl⟩ := Finset.mem_map.mp hin
    rw [View.write_emb_of_mem _ _ (Finset.mem_univ j)]
    rfl
  · rw [View.write_of_not_mem _ _ _ hin]
    refine hb x ((done_succ ht hm hoff inb' x hx').resolve_right fun h => hin ?_)
    have e : ((bA : Memref sig .scVector .vmem S3x128x128 .f32).access (Rect.unit (s := S3x128x128) off S1x1x16.size inb')).set
        = (Rect.unit (s := S3x128x128) off S1x1x16.size inb').set := View.set_slice_whole _ _
    exact (Finset.ext_iff.mp e x).mpr h

set_option maxHeartbeats 4000000 in
/-- One row. -/
theorem zeroA_row (t : Fin k0_t1_loop.trips) (acc : BitVec 32) :
    zeroA d L (Done t.val 0)
      ⊢ wp frame (wpE (defs₀ (F := F)) 𝒱₀ (thr d L) none) Set.univ
          (k0_t1_body L hV (Memref.isWhole_whole _) oV (Memref.isWhole_whole _) wV (Memref.isWhole_whole _) bA (Memref.isWhole_whole _) bB (Memref.isWhole_whole _) cc0_scratch3 cc0_scratch4 cc0_scratch5 t acc)
          (fun _ => zeroA d L (Done (t.val + 1) 0)) := by
  have ht : t.val < 128 := lt_of_lt_of_le t.isLt k0_t1_abs.2.1
  unfold k0_t1_body
  simp only [k0_part1_eq_skeleton, k0_part2_eq_skeleton]
  unfold k0_part1_skel k0_part2_skel
  simp only [Prog.lift, Prog.bind_op, Prog.bind_ret, Prog.pure_eq_ret]
  iintro Hz
  iapply (zeroA_step d L t.val 0 ht (by decide) (k0_off2_eq t)) $$ Hz; iintro Hz
  iapply (zeroA_step d L t.val 1 ht (by decide) (k0_off3_eq t)) $$ Hz; iintro Hz
  iapply (zeroA_step d L t.val 2 ht (by decide) (k0_off4_eq t)) $$ Hz; iintro Hz
  iapply (zeroA_step d L t.val 3 ht (by decide) (k0_off5_eq t)) $$ Hz; iintro Hz
  iapply (zeroA_step d L t.val 4 ht (by decide) (k0_off6_eq t)) $$ Hz; iintro Hz
  iapply (zeroA_step d L t.val 5 ht (by decide) (k0_off7_eq t)) $$ Hz; iintro Hz
  iapply (zeroA_step d L t.val 6 ht (by decide) (k0_off8_eq t)) $$ Hz; iintro Hz
  iapply (zeroA_step d L t.val 7 ht (by decide) (k0_off9_eq t)) $$ Hz; iintro Hz
  iapply (zeroA_step d L t.val 8 ht (by decide) (k0_off10_eq t)) $$ Hz; iintro Hz
  iapply (zeroA_step d L t.val 9 ht (by decide) (k0_off11_eq t)) $$ Hz; iintro Hz
  iapply (zeroA_step d L t.val 10 ht (by decide) (k0_off12_eq t)) $$ Hz; iintro Hz
  iapply (zeroA_step d L t.val 11 ht (by decide) (k0_off13_eq t)) $$ Hz; iintro Hz
  iapply (zeroA_step d L t.val 12 ht (by decide) (k0_off14_eq t)) $$ Hz; iintro Hz
  iapply (zeroA_step d L t.val 13 ht (by decide) (k0_off15_eq t)) $$ Hz; iintro Hz
  iapply (zeroA_step d L t.val 14 ht (by decide) (k0_off16_eq t)) $$ Hz; iintro Hz
  iapply (zeroA_step d L t.val 15 ht (by decide) (k0_off17_eq t)) $$ Hz; iintro Hz
  iapply (zeroA_step d L t.val 16 ht (by decide) (k0_off18_eq t)) $$ Hz; iintro Hz
  iapply (zeroA_step d L t.val 17 ht (by decide) (k0_off19_eq t)) $$ Hz; iintro Hz
  iapply (zeroA_step d L t.val 18 ht (by decide) (k0_off20_eq t)) $$ Hz; iintro Hz
  iapply (zeroA_step d L t.val 19 ht (by decide) (k0_off21_eq t)) $$ Hz; iintro Hz
  iapply (zeroA_step d L t.val 20 ht (by decide) (k0_off22_eq t)) $$ Hz; iintro Hz
  iapply (zeroA_step d L t.val 21 ht (by decide) (k0_off23_eq t)) $$ Hz; iintro Hz
  iapply (zeroA_step d L t.val 22 ht (by decide) (k0_off24_eq t)) $$ Hz; iintro Hz
  iapply (zeroA_step d L t.val 23 ht (by decide) (k0_off25_eq t)) $$ Hz; iintro Hz
  rw [wp_ret]
  imodintro
  unfold zeroA
  icases Hz with ⟨%b, %hb, Hb⟩
  iexists b
  isplitr [Hb]
  · ipureintro
    exact fun x hx => hb x (done_row x hx)
  · iexact Hb

/-- The loop: from any contents, all zeros. -/
theorem zeroA_run (b : Vec F S3x128x128 .f32) :
    aPts d L b
      ⊢ wp frame (wpE (defs₀ (F := F)) 𝒱₀ (thr d L) none) Set.univ
          (Scf.Loop.for k0_t1_loop k0_t1_ok 0#32 (k0_t1_body L hV (Memref.isWhole_whole _) oV (Memref.isWhole_whole _) wV (Memref.isWhole_whole _) bA (Memref.isWhole_whole _) bB (Memref.isWhole_whole _) cc0_scratch3 cc0_scratch4 cc0_scratch5))
          (fun _ => aPts d L zeros) := by
  refine BIBase.Entails.trans ?_ ((for_run d L _ _ _ _ (fun k => zeroA d L (Done k 0)) (zeroA_row d L )).trans (wp_mono _ _ _ fun _ => ?_))
  · unfold zeroA
    iintro Hb
    iexists b
    isplitr [Hb]
    · ipureintro
      intro x hx
      rcases hx with hx | ⟨-, hx⟩ <;> omega
    · iexact Hb
  · unfold zeroA
    iintro ⟨%b', %hb', Hb⟩
    have e : b' = zeros := by
      funext x
      have x1 : (x 1).val < 128 := (x 1).isLt
      exact hb' x (Or.inl (by rw [show k0_t1_loop.trips = 128 by decide]; exact x1))
    subst e
    iexact Hb

/-! ## The odd chunks' buffer -/

/-- The odd chunks' buffer holds zeros where `P` says. -/
def zeroB (P : S3x128x128.Idx → Prop) : sProp 𝕄 := iprop(∃ b : Vec F S3x128x128 .f32, ⌜∀ x, P x → b x = zeros x⌝ ∗ bPts d L b)

/-- One lane group's load and store of zeros. -/
theorem zeroB_step (t m : ℕ) (ht : t < 128) (hm : m < 24) {off : Fin 3 → ℕ} (hoff : off = ![m / 8, t, 16 * (m % 8)])
    {inb inb' : ∀ a, off a + S1x1x16.size a ≤ S3x128x128.size a} {α : Type} {Q : α → sProp 𝕄}
    {hl : (bB : Memref sig .scVector .vmem S3x128x128 .f32).view.LoadsAt (Rect.unit (s := S3x128x128) off S1x1x16.size inb).toLoadRect}
    {hx : ((bB : Memref sig .scVector .vmem S3x128x128 .f32).access (Rect.unit (s := S3x128x128) off S1x1x16.size inb')).Stores Finset.univ}
    {hm' : (Finset.univ : Finset (Rect.unit (s := S3x128x128) off S1x1x16.size inb').shape.Idx) = Finset.univ ∨
      ∀ a, (Rect.unit (s := S3x128x128) off S1x1x16.size inb').stride a = 1}
    {k : PUnit → Prog (TpuEff nD τ sig (Elt F) Λ₀ (thr d L).2) α} :
    zeroB d L (Done t m) ⊢ iprop((zeroB d L (Done t (m + 1)) -∗ wp frame (wpE (defs₀ (F := F)) 𝒱₀ (thr d L) none) Set.univ (k ⟨⟩) Q)
      -∗ wp frame (wpE (defs₀ (F := F)) 𝒱₀ (thr d L) none) Set.univ
        (.op (TpuEff.load (bB : Memref sig .scVector .vmem S3x128x128 .f32) (Rect.unit (s := S3x128x128) off S1x1x16.size inb).toLoadRect hl) fun _ =>
          .op (TpuEff.store (bB : Memref sig .scVector .vmem S3x128x128 .f32) (Rect.unit (s := S3x128x128) off S1x1x16.size inb')
            (shapeCast S1x1x16 (k0_pay27 (F := F)) shapeCasts_S16_S1x1x16) Finset.univ hx hm') k) Q) := by
  unfold zeroB
  iintro ⟨%b, %hb, Hb⟩ Hk
  iapply (wp_load 𝒱₀ (thr d L) none Set.univ (m := (bB : Memref sig .scVector .vmem S3x128x128 .f32)) (S := Finset.univ) (Finset.subset_univ _)) $$ Hb; iintro Hb
  iapply (wp_store 𝒱₀ (thr d L) none Set.univ (m := (bB : Memref sig .scVector .vmem S3x128x128 .f32))
    (r := Rect.unit (s := S3x128x128) off S1x1x16.size inb') (Mk := Finset.univ) (S := Finset.univ) (Finset.subset_univ _)) $$ Hb; iintro Hb
  iapply Hk
  iexists _
  isplitr [Hb]
  swap
  · iexact Hb
  ipureintro
  intro x hx'
  by_cases hin : x ∈ ((bB : Memref sig .scVector .vmem S3x128x128 .f32).access (Rect.unit (s := S3x128x128) off S1x1x16.size inb')).setOn Finset.univ
  · obtain ⟨j, -, rfl⟩ := Finset.mem_map.mp hin
    rw [View.write_emb_of_mem _ _ (Finset.mem_univ j)]
    rfl
  · rw [View.write_of_not_mem _ _ _ hin]
    refine hb x ((done_succ ht hm hoff inb' x hx').resolve_right fun h => hin ?_)
    have e : ((bB : Memref sig .scVector .vmem S3x128x128 .f32).access (Rect.unit (s := S3x128x128) off S1x1x16.size inb')).set
        = (Rect.unit (s := S3x128x128) off S1x1x16.size inb').set := View.set_slice_whole _ _
    exact (Finset.ext_iff.mp e x).mpr h

set_option maxHeartbeats 4000000 in
/-- One row. -/
theorem zeroB_row (arg10 v75 : BitVec 32) (t2 : Fin k0_t2_loop.trips) (h3 : k0_cond3 t2 = 1#1) (h4 : k0_cond4 t2 = 1#1) (t : Fin k0_t6_loop.trips) (acc : BitVec 32) :
    zeroB d L (Done t.val 0)
      ⊢ wp frame (wpE (defs₀ (F := F)) 𝒱₀ (thr d L) none) Set.univ
          (k0_t6_body L hV (Memref.isWhole_whole _) oV (Memref.isWhole_whole _) wV (Memref.isWhole_whole _) bA (Memref.isWhole_whole _) bB (Memref.isWhole_whole _) cc0_scratch3 cc0_scratch4 cc0_scratch5 lanes k0_pay27 k0_pay28 t2 arg10 v75 h3 h4 t acc)
          (fun _ => zeroB d L (Done (t.val + 1) 0)) := by
  have ht : t.val < 128 := lt_of_lt_of_le t.isLt k0_t6_abs.2.1
  unfold k0_t6_body
  simp only [k0_part5_eq_skeleton, k0_part6_eq_skeleton]
  unfold k0_part5_skel k0_part6_skel
  simp only [Prog.lift, Prog.bind_op, Prog.bind_ret, Prog.pure_eq_ret]
  iintro Hz
  iapply (zeroB_step d L t.val 0 ht (by decide) (k0_off28_eq t)) $$ Hz; iintro Hz
  iapply (zeroB_step d L t.val 1 ht (by decide) (k0_off29_eq t)) $$ Hz; iintro Hz
  iapply (zeroB_step d L t.val 2 ht (by decide) (k0_off30_eq t)) $$ Hz; iintro Hz
  iapply (zeroB_step d L t.val 3 ht (by decide) (k0_off31_eq t)) $$ Hz; iintro Hz
  iapply (zeroB_step d L t.val 4 ht (by decide) (k0_off32_eq t)) $$ Hz; iintro Hz
  iapply (zeroB_step d L t.val 5 ht (by decide) (k0_off33_eq t)) $$ Hz; iintro Hz
  iapply (zeroB_step d L t.val 6 ht (by decide) (k0_off34_eq t)) $$ Hz; iintro Hz
  iapply (zeroB_step d L t.val 7 ht (by decide) (k0_off35_eq t)) $$ Hz; iintro Hz
  iapply (zeroB_step d L t.val 8 ht (by decide) (k0_off36_eq t)) $$ Hz; iintro Hz
  iapply (zeroB_step d L t.val 9 ht (by decide) (k0_off37_eq t)) $$ Hz; iintro Hz
  iapply (zeroB_step d L t.val 10 ht (by decide) (k0_off38_eq t)) $$ Hz; iintro Hz
  iapply (zeroB_step d L t.val 11 ht (by decide) (k0_off39_eq t)) $$ Hz; iintro Hz
  iapply (zeroB_step d L t.val 12 ht (by decide) (k0_off40_eq t)) $$ Hz; iintro Hz
  iapply (zeroB_step d L t.val 13 ht (by decide) (k0_off41_eq t)) $$ Hz; iintro Hz
  iapply (zeroB_step d L t.val 14 ht (by decide) (k0_off42_eq t)) $$ Hz; iintro Hz
  iapply (zeroB_step d L t.val 15 ht (by decide) (k0_off43_eq t)) $$ Hz; iintro Hz
  iapply (zeroB_step d L t.val 16 ht (by decide) (k0_off44_eq t)) $$ Hz; iintro Hz
  iapply (zeroB_step d L t.val 17 ht (by decide) (k0_off45_eq t)) $$ Hz; iintro Hz
  iapply (zeroB_step d L t.val 18 ht (by decide) (k0_off46_eq t)) $$ Hz; iintro Hz
  iapply (zeroB_step d L t.val 19 ht (by decide) (k0_off47_eq t)) $$ Hz; iintro Hz
  iapply (zeroB_step d L t.val 20 ht (by decide) (k0_off48_eq t)) $$ Hz; iintro Hz
  iapply (zeroB_step d L t.val 21 ht (by decide) (k0_off49_eq t)) $$ Hz; iintro Hz
  iapply (zeroB_step d L t.val 22 ht (by decide) (k0_off50_eq t)) $$ Hz; iintro Hz
  iapply (zeroB_step d L t.val 23 ht (by decide) (k0_off51_eq t)) $$ Hz; iintro Hz
  rw [wp_ret]
  imodintro
  unfold zeroB
  icases Hz with ⟨%b, %hb, Hb⟩
  iexists b
  isplitr [Hb]
  · ipureintro
    exact fun x hx => hb x (done_row x hx)
  · iexact Hb

/-- The loop: from any contents, all zeros. -/
theorem zeroB_run (arg10 v75 : BitVec 32) (t2 : Fin k0_t2_loop.trips) (h3 : k0_cond3 t2 = 1#1) (h4 : k0_cond4 t2 = 1#1) (b : Vec F S3x128x128 .f32) :
    bPts d L b
      ⊢ wp frame (wpE (defs₀ (F := F)) 𝒱₀ (thr d L) none) Set.univ
          (Scf.Loop.for k0_t6_loop (k0_t6_ok t2 h3 h4) 0#32 (k0_t6_body L hV (Memref.isWhole_whole _) oV (Memref.isWhole_whole _) wV (Memref.isWhole_whole _) bA (Memref.isWhole_whole _) bB (Memref.isWhole_whole _) cc0_scratch3 cc0_scratch4 cc0_scratch5 lanes k0_pay27 k0_pay28 t2 arg10 v75 h3 h4))
          (fun _ => bPts d L zeros) := by
  refine BIBase.Entails.trans ?_ ((for_run d L _ _ _ _ (fun k => zeroB d L (Done k 0)) (zeroB_row d L arg10 v75 t2 h3 h4)).trans (wp_mono _ _ _ fun _ => ?_))
  · unfold zeroB
    iintro Hb
    iexists b
    isplitr [Hb]
    · ipureintro
      intro x hx
      rcases hx with hx | ⟨-, hx⟩ <;> omega
    · iexact Hb
  · unfold zeroB
    iintro ⟨%b', %hb', Hb⟩
    have e : b' = zeros := by
      funext x
      have x1 : (x 1).val < 128 := (x 1).isLt
      exact hb' x (Or.inl (by rw [show k0_t6_loop.trips = 128 by decide]; exact x1))
    subst e
    iexact Hb

end Cert.Proof.Hist

end
-- ==== Proof.Trips.lean ====
/-
  The chunk loop's book-keeping: a buffer as its three planes, the tile's blocks of the result by chunk, what each
  buffer's state is between trips, and one trip of each parity.
-/
module

public import proofs.«01_k».proof.Proof.Loops
public import proofs.«01_k».proof.Proof.Zero

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

variable (d : Dev nD) (L : grid0.Coords)

/-! ## A buffer is its three planes -/

theorem bufSet_disjoint (k k' : Fin 3) (h : k ≠ k') : Disjoint (bufSet k.val) (bufSet k'.val) := by
  rw [Finset.disjoint_left]
  intro x hx hx'
  unfold bufSet at hx hx'
  rw [Finset.mem_filter] at hx hx'
  exact h (Fin.ext (hx.2.symm.trans hx'.2))

theorem bufSet_cover : (Finset.univ : Finset (Fin 3)).biUnion (fun k => bufSet k.val) = Finset.univ := by
  refine Finset.eq_univ_iff_forall.mpr fun x => Finset.mem_biUnion.mpr ⟨⟨(x 0).val, (x 0).isLt⟩, Finset.mem_univ _, ?_⟩
  unfold bufSet
  rw [Finset.mem_filter]
  exact ⟨Finset.mem_univ _, rfl⟩

/-- The even chunks' buffer held plane by plane. -/
abbrev planesA (b : Vec F S3x128x128 .f32) : sProp 𝕄 :=
  bigSep (Finset.univ : Finset (Fin 3)) fun k => (planeA k).view.loc (thr d L) ↦[(planeA k).view.set]{fullShare} b
/-- The odd chunks' buffer held plane by plane. -/
abbrev planesB (b : Vec F S3x128x128 .f32) : sProp 𝕄 :=
  bigSep (Finset.univ : Finset (Fin 3)) fun k => (planeB k).view.loc (thr d L) ↦[(planeB k).view.set]{fullShare} b

theorem planesA_eq (b : Vec F S3x128x128 .f32) : planesA d L b = aPts d L b := by
  refine Eq.trans ?_ ((pointsTo_biUnion (ℓ := (thr d L).loc cc0_scratch1) (q := fullShare) (f := b) (Finset.univ : Finset (Fin 3))
    (fun k => bufSet k.val) (fun k _ k' _ h => bufSet_disjoint k k' h)).symm.trans ?_)
  · refine bigSep_congr fun k _ => ?_
    rw [set_planeA]
  · rw [bufSet_cover]

theorem planesB_eq (b : Vec F S3x128x128 .f32) : planesB d L b = bPts d L b := by
  refine Eq.trans ?_ ((pointsTo_biUnion (ℓ := (thr d L).loc cc0_scratch2) (q := fullShare) (f := b) (Finset.univ : Finset (Fin 3))
    (fun k => bufSet k.val) (fun k _ k' _ h => bufSet_disjoint k k' h)).symm.trans ?_)
  · refine bigSep_congr fun k _ => ?_
    rw [set_planeB]
  · rw [bufSet_cover]

/-! ## The tile's blocks of the result -/

/-- Block `k` of chunk `t`, at the contents `f`. -/
abbrev part (f : Vec F S16x6144x128 .f32) (t : Fin 8) (k : Fin 3) : sProp 𝕄 :=
  (outM L t k).view.loc (thr d L) ↦[(outM L t k).view.set]{fullShare} f
/-- The three blocks of chunk `t`, at the contents `f`. -/
def block (f : Vec F S16x6144x128 .f32) (t : Fin 8) : sProp 𝕄 :=
  bigSep (Finset.univ : Finset (Fin 3)) (part d L f t)

/-- Chunk `t`'s blocks before trip `n`: as found while `t` has not been started, final once `t`'s copies have been
    waited for, and with the copies in between. -/
def piece (f₀ f₁ : Vec F S16x6144x128 .f32) (n : ℕ) (t : Fin 8) : sProp 𝕄 :=
  if n ≤ t.val then block d L f₀ t else if t.val + 2 < n then block d L f₁ t else iprop(emp)

/-- The tile's blocks before trip `n`. -/
def pieces (f₀ f₁ : Vec F S16x6144x128 .f32) (n : ℕ) : sProp 𝕄 :=
  bigSep (Finset.univ : Finset (Fin 8)) (piece d L f₀ f₁ n)

/-- What trip `n` gets back from the copies of the chunk two before. -/
def back (f₁ : Vec F S16x6144x128 .f32) (n : ℕ) : sProp 𝕄 :=
  if h : 2 ≤ n ∧ n - 2 < 8 then block d L f₁ ⟨n - 2, h.2⟩ else iprop(emp)

/-- Trip `n` takes its chunk's blocks and puts back those of the chunk two before. -/
theorem pieces_step (f₀ f₁ : Vec F S16x6144x128 .f32) (n : Fin 8) :
    pieces d L f₀ f₁ n.val ⊢ iprop(block d L f₀ n ∗ (back d L f₁ n.val -∗ pieces d L f₀ f₁ (n.val + 1))) := by
  classical
  let Ψ : Fin 8 → sProp 𝕄 := Function.update (piece d L f₀ f₁ n.val) n iprop(emp)
  have hΨ : ∀ j, j ≠ n → Ψ j = piece d L f₀ f₁ n.val j := fun j hj => Function.update_of_ne hj _ _
  have hΨn : Ψ n = iprop(emp) := Function.update_self _ _ _
  have hn : piece d L f₀ f₁ n.val n = block d L f₀ n := if_pos le_rfl
  have e1 := bigSep_univ_update n hΨ
  rw [hΨn, hn] at e1
  unfold pieces
  refine e1.trans ?_
  iintro ⟨Hb, Hk⟩
  isplitl [Hb]; · iexact Hb
  iintro Hback
  ihave Hk := Hk $$ []
  · iempintro
  by_cases h2 : 2 ≤ n.val
  · have hlt : n.val - 2 < 8 := lt_of_le_of_lt (Nat.sub_le _ _) n.isLt
    have hne : ∀ j, j ≠ (⟨n.val - 2, hlt⟩ : Fin 8) → piece d L f₀ f₁ (n.val + 1) j = Ψ j := by
      intro j hj
      have hj' : j.val ≠ n.val - 2 := fun h => hj (Fin.ext h)
      by_cases hjn : j = n
      · subst hjn
        rw [hΨn]
        unfold piece
        rw [if_neg (by omega), if_neg (by omega)]
      · have hjn' : j.val ≠ n.val := fun h => hjn (Fin.ext h)
        rw [hΨ j hjn]
        unfold piece
        split_ifs <;> first | omega | rfl
    have e2 := bigSep_univ_update (⟨n.val - 2, hlt⟩ : Fin 8) hne
    have e3 : piece d L f₀ f₁ (n.val + 1) ⟨n.val - 2, hlt⟩ = back d L f₁ n.val := by
      unfold piece back
      rw [if_neg (by simp only; omega), if_pos (by simp only; omega), dif_pos ⟨h2, hlt⟩]
    rw [e3] at e2
    ihave H := e2 $$ Hk
    icases H with ⟨-, H⟩
    iapply H $$ Hback
  · have e : bigSep Finset.univ Ψ = bigSep Finset.univ (piece d L f₀ f₁ (n.val + 1)) := by
      refine bigSep_congr fun j _ => ?_
      by_cases hjn : j = n
      · subst hjn
        rw [hΨn]
        unfold piece
        rw [if_neg (by omega), if_neg (by omega)]
      · have hjn' : j.val ≠ n.val := fun h => hjn (Fin.ext h)
        rw [hΨ j hjn]
        unfold piece
        split_ifs <;> first | omega | rfl
    iapply (Entails.of_eq e) $$ Hk

theorem pieces_zero (f₀ f₁ : Vec F S16x6144x128 .f32) :
    pieces d L f₀ f₁ 0 = bigSep (Finset.univ : Finset (Fin 8)) (block d L f₀) := by
  refine bigSep_congr fun t _ => ?_
  unfold piece
  rw [if_pos (Nat.zero_le _)]

/-- After the loop, the last two chunks' blocks got back, all is final. -/
theorem pieces_end (f₀ f₁ : Vec F S16x6144x128 .f32) :
    iprop(pieces d L f₀ f₁ 8 ∗ block d L f₁ 6 ∗ block d L f₁ 7) ⊢ bigSep (Finset.univ : Finset (Fin 8)) (block d L f₁) := by
  classical
  let Ψ : Fin 8 → sProp 𝕄 := Function.update (piece d L f₀ f₁ 8) 6 (block d L f₁ 6)
  have hΨ : ∀ j, j ≠ 6 → Ψ j = piece d L f₀ f₁ 8 j := fun j hj => Function.update_of_ne hj _ _
  have hΨn : Ψ 6 = block d L f₁ 6 := Function.update_self _ _ _
  have e1 := bigSep_univ_update 6 hΨ
  rw [hΨn] at e1
  have e2 : bigSep Finset.univ Ψ ⊢ _ := bigSep_univ_update (Φ := Ψ) (Ψ := block d L f₁) 7 (by
    intro j hj
    by_cases h6 : j = 6
    · subst h6; exact hΨn.symm
    · rw [hΨ j h6]
      unfold piece
      have h1 : j.val ≠ 7 := fun h => hj (Fin.ext h)
      have h2 : j.val ≠ 6 := fun h => h6 (Fin.ext h)
      rw [if_neg (by omega), if_pos (by omega)])
  unfold pieces
  iintro ⟨Hp, H6, H7⟩
  ihave H := e1 $$ Hp
  icases H with ⟨-, H⟩
  ihave H := H $$ H6
  ihave H := e2 $$ H
  icases H with ⟨-, H⟩
  iapply H $$ H7

/-! ## The buffers between trips -/

variable (h : Vec F S8192 .i32)

/-- The tile's hash words. -/
abbrev hw : Vec F S512 .i32 := rowWords h (L 1)
/-- Chunk `t`'s copies out of the even chunks' buffer, all three under way. -/
abbrev flyA (t : Fin 8) (n : ℕ) : sProp 𝕄 :=
  Transfers.Batch EC (thr d L) (.dma cc0_scratch3.sem) (none : HIx 1) NO (landed d L h t planeA (fun _ => bufAt L (hw L h) t.val)) n 0
/-- Chunk `t`'s copies out of the odd chunks' buffer, all three under way. -/
abbrev flyB (t : Fin 8) (n : ℕ) : sProp 𝕄 :=
  Transfers.Batch EC (thr d L) (.dma cc0_scratch4.sem) (none : HIx 1) NO (landed d L h t planeB (fun _ => bufAt L (hw L h) t.val)) n 0

/-- What the tile owes while it waits. -/
abbrev owed (O : CellTallies nD τ sig (HIx 1)) (W : Waits sig (HIx 1)) : sProp 𝕄 :=
  iprop(∃ W', ⌜∀ p ∈ W', p ∈ W ∨ p.2 = none⌝ ∗ owes (thr d L) O W')

theorem waits_insert {s : SemLoc sig} {W W' : Waits sig (HIx 1)} (h : ∀ p ∈ W', p ∈ W ∨ p.2 = none) :
    ∀ p ∈ insert (s, (none : HIx 1)) W', p ∈ W ∨ p.2 = none := by
  intro p hp
  rcases Finset.mem_insert.mp hp with hp | hp
  · exact Or.inr (by rw [hp])
  · exact h p hp

theorem landed_split (t : Fin 8) (src : Fin 3 → Memref sig .scVector .vmem S128x128 .f32)
    (b : (k : Fin 3) → Buf (Elt F) ((src k).view.loc (thr d L))) :
    bigSep (Finset.univ : Finset (Fin 3)) (landed d L h t src b)
      = iprop(block d L (outOf h) t
          ∗ bigSep (Finset.univ : Finset (Fin 3)) fun k => (src k).view.loc (thr d L) ↦[(src k).view.set]{fullShare} b k) :=
  bigSep_sep' _ _ _

/-- The three waits for a chunk's copies: the chunk's blocks are final and the planes are back. -/
theorem wait3 (t : Fin 8) (sem : DmaSem sig) (src : Fin 3 → Memref sig .scVector .vmem S128x128 .f32)
    (b : (k : Fin 3) → Buf (Elt F) ((src k).view.loc (thr d L)))
    {O : CellTallies nD τ sig (HIx 1)} {W : Waits sig (HIx 1)} {α : Type} {Q : α → sProp 𝕄}
    {s0 s1 s2 : Memref sig .scVector .vmem S128x128 .f32} {d0 d1 d2 : Memref sig .scVector .hbm S128x128 .f32}
    {hs0 : s0.view.WordExact} {hs1 : s1.view.WordExact} {hs2 : s2.view.WordExact}
    {hd0 : d0.view.WordExact} {hd1 : d1.view.WordExact} {hd2 : d2.view.WordExact}
    (h0 : d0.view.dmaCredit = NO) (h1 : d1.view.dmaCredit = NO) (h2 : d2.view.dmaCredit = NO)
    {kk : PUnit → Prog (TpuEff nD τ sig (Elt F) Λ₀ (thr d L).2) α} :
    iprop(Transfers.Batch EC (thr d L) (.dma sem) (none : HIx 1) NO (landed d L h t src b) 3 0 ∗ owed d L O W
        ∗ Transfers.MayWaits (thr d L) (none : HIx 1) O)
      ⊢ iprop((iprop(block d L (outOf h) t
              ∗ (bigSep (Finset.univ : Finset (Fin 3)) fun k => (src k).view.loc (thr d L) ↦[(src k).view.set]{fullShare} b k)
              ∗ semVal (thr d L, .dma sem) 0 ∗ owed d L O W)
            -∗ wp frame (wpE (defs₀ (F := F)) 𝒱₀ (thr d L) none) Set.univ (kk ⟨⟩) Q)
          -∗ wp frame (wpE (defs₀ (F := F)) 𝒱₀ (thr d L) none) Set.univ
            (.op (TpuEff.waitDma2 sem s0 d0 hs0 hd0) fun _ => .op (TpuEff.waitDma2 sem s1 d1 hs1 hd1) fun _ =>
              .op (TpuEff.waitDma2 sem s2 d2 hs2 hd2) kk) Q) := by
  have hN := NO_pos
  iintro ⟨HB, ⟨%W', %hW, Ho⟩, #HM⟩ Hk
  ihave HW := Transfers.MayWaits.elim (.dma sem) $$ HM
  iapply (Transfers.wp_waitBatchO EC 𝒱₀ (thr d L) none (none : HIx 1) h0 (n := 3) (D := landed d L h t src b) (u := 0) (by omega)) $$ [HB Ho HW]
  · isplitl [HB]; · iexact HB
    isplitl [Ho]; · iexact Ho
    iexact HW
  iintro ⟨HB, Ho⟩
  ihave HW := Transfers.MayWaits.elim (.dma sem) $$ HM
  iapply (Transfers.wp_waitBatchO EC 𝒱₀ (thr d L) none (none : HIx 1) h1 (n := 3) (D := landed d L h t src b) (u := 0 + NO) (by omega)) $$ [HB Ho HW]
  · isplitl [HB]; · iexact HB
    isplitl [Ho]; · iexact Ho
    iexact HW
  iintro ⟨HB, Ho⟩
  ihave HW := Transfers.MayWaits.elim (.dma sem) $$ HM
  iapply (Transfers.wp_waitBatchLastO EC 𝒱₀ (thr d L) none (none : HIx 1) h2 hN (n := 3) (D := landed d L h t src b) (u := 0 + NO + NO) (by omega)) $$ [HB Ho HW]
  · isplitl [HB]; · iexact HB
    isplitl [Ho]; · iexact Ho
    iexact HW
  iintro ⟨HD, Hs, Ho⟩
  ihave HD := (Entails.of_eq (landed_split d L h t src b)) $$ HD
  icases HD with ⟨Hb, Hp⟩
  iapply Hk
  isplitl [Hb]; · iexact Hb
  isplitl [Hp]; · iexact Hp
  isplitl [Hs]; · iexact Hs
  iexists insert (SemLoc.dma sem, none) (insert (SemLoc.dma sem, none) (insert (SemLoc.dma sem, none) W'))
  isplitr
  · ipureintro
    exact waits_insert (waits_insert (waits_insert hW))
  iexact Ho

end Cert.Proof.Hist

end
-- ==== Proof.Chunks.lean ====
/-
  One trip of the chunk loop: the wait for the buffer's last chunk, the two scatter passes, the three copies out; and the
  whole loop, from fresh blocks to the last two chunks' copies under way.
-/
module

public import proofs.«01_k».proof.Proof.Trips

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

variable (d : Dev nD) (L : grid0.Coords)

theorem bigSep_three (Φ : Fin 3 → sProp 𝕄) :
    bigSep (Finset.univ : Finset (Fin 3)) Φ = iprop(Φ 0 ∗ Φ 1 ∗ Φ 2) := by
  rw [show (Finset.univ : Finset (Fin 3)) = {0, 1, 2} by decide, SparseCore.bigSep_insert' (by decide),
    SparseCore.bigSep_insert' (by decide), bigSep_singleton]

/-- Chunk `t` as a number below 8. -/
abbrev tt (t : Fin k0_t2_loop.trips) : Fin 8 := ⟨t.val, trips2 t⟩
/-- The number `n` as a chunk's. -/
abbrev ch (n : ℕ) : Fin 8 := ⟨n % 8, Nat.mod_lt _ (by decide)⟩

theorem off27_0 (t : Fin k0_t2_loop.trips) : k0_off27 L t 0#32 = outOff L (tt t) 0 := k0_off27_eq L t 0
theorem off27_1 (t : Fin k0_t2_loop.trips) : k0_off27 L t 2048#32 = outOff L (tt t) 1 := k0_off27_eq L t 1
theorem off27_2 (t : Fin k0_t2_loop.trips) : k0_off27 L t 4096#32 = outOff L (tt t) 2 := k0_off27_eq L t 2
theorem off53_0 (t : Fin k0_t2_loop.trips) : k0_off53 L t 0#32 = outOff L (tt t) 0 := k0_off53_eq L t 0
theorem off53_1 (t : Fin k0_t2_loop.trips) : k0_off53 L t 2048#32 = outOff L (tt t) 1 := k0_off53_eq L t 1
theorem off53_2 (t : Fin k0_t2_loop.trips) : k0_off53 L t 4096#32 = outOff L (tt t) 2 := k0_off53_eq L t 2

theorem cond1_iff : ∀ t : Fin k0_t2_loop.trips, k0_cond1 t = 1#1 ↔ t.val % 2 = 0 := by decide +kernel
theorem cond2_iff : ∀ t : Fin k0_t2_loop.trips, k0_cond2 t = 1#1 ↔ 2 ≤ t.val := by decide +kernel
theorem cond3_iff : ∀ t : Fin k0_t2_loop.trips, k0_cond3 t = 1#1 ↔ t.val % 2 = 1 := by decide +kernel
theorem cond4_iff : ∀ t : Fin k0_t2_loop.trips, k0_cond4 t = 1#1 ↔ t.val = 1 := by decide +kernel
theorem cond5_iff : ∀ t : Fin k0_t2_loop.trips, k0_cond5 t = 1#1 ↔ 2 ≤ t.val := by decide +kernel

variable (h : Vec F S8192 .i32)

/-- The even chunks' buffer and its semaphore once `m` even chunks have been started. -/
def sideA : ℕ → sProp 𝕄
  | 0 => iprop(semVal (thr d L, .dma cc0_scratch3.sem) 0 ∗ aPts d L zeros)
  | m + 1 => flyA d L h (ch (2 * m)) 3
/-- The odd chunks' buffer and its semaphore once `m` odd chunks have been started. -/
def sideB : ℕ → sProp 𝕄
  | 0 => iprop(semVal (thr d L, .dma cc0_scratch4.sem) 0 ∗ ∃ b, bPts d L b)
  | m + 1 => flyB d L h (ch (2 * m + 1)) 3

/-- What the even chunks' buffer holds when its next chunk's passes start. -/
def prevA : ℕ → Vec F S3x128x128 .f32
  | 0 => zeros
  | m + 1 => bufAt L (hw L h) (ch (2 * m)).val
/-- What the odd chunks' buffer holds when its next chunk's passes start. -/
def prevB : ℕ → Vec F S3x128x128 .f32
  | 0 => zeros
  | m + 1 => bufAt L (hw L h) (ch (2 * m + 1)).val

theorem chunk_prevA (m : ℕ) (hm : 2 * m < 8) : chunk L (hw L h) (2 * m) (prevA L h m) = bufAt L (hw L h) (2 * m) := by
  cases m with
  | zero => rfl
  | succ m =>
    have e : (ch (2 * m)).val = 2 * m := Nat.mod_eq_of_lt (by omega)
    show chunk L _ _ (bufAt L _ (ch (2 * m)).val) = _
    rw [e]
    rfl

theorem chunk_prevB (m : ℕ) (hm : 2 * m + 1 < 8) :
    chunk L (hw L h) (2 * m + 1) (prevB L h m) = bufAt L (hw L h) (2 * m + 1) := by
  cases m with
  | zero => rfl
  | succ m =>
    have e : (ch (2 * m + 1)).val = 2 * m + 1 := Nat.mod_eq_of_lt (by omega)
    show chunk L _ _ (bufAt L _ (ch (2 * m + 1)).val) = _
    rw [e]
    rfl

theorem back_succ (f₁ : Vec F S16x6144x128 .f32) (n : ℕ) (hn : n < 8) : back d L f₁ (n + 2) = block d L f₁ (ch n) := by
  unfold back
  rw [dif_pos (show 2 ≤ n + 2 ∧ n + 2 - 2 < 8 by omega)]
  congr 1
  exact Fin.ext (by show n + 2 - 2 = n % 8; omega)

theorem read_A (b : Vec F S3x128x128 .f32) (k : Fin 3) (j : S128x128.Idx) :
    (planeA k).view.read (Elt F) b j = b (ix3 k (j 0) (j 1)) := by
  rw [View.read_apply, emb_planeA]; rfl
theorem read_B (b : Vec F S3x128x128 .f32) (k : Fin 3) (j : S128x128.Idx) :
    (planeB k).view.read (Elt F) b j = b (ix3 k (j 0) (j 1)) := by
  rw [View.read_apply, emb_planeB]; rfl

theorem outM_eq (t : Fin 8) (k : Fin 3) (off : Fin 3 → ℕ) (inb : ∀ a, off a + S1x128x128.size a ≤ S16x6144x128.size a)
    (e : off = outOff L t k) :
    ((oV : Memref sig .scVector .hbm S16x6144x128 .f32).slice (Rect.unit (s := S16x6144x128) off S1x128x128.size inb)
      (fun _ => rfl)).squeeze S128x128 squeezes_S1x128x128_S128x128 = outM L t k := by
  subst e; rfl

/-- `send` for a destination that is the chunk's block. -/
theorem send_to (t : Fin 8) (src : Fin 3 → Memref sig .scVector .vmem S128x128 .f32)
    (b : (k : Fin 3) → Buf (Elt F) ((src k).view.loc (thr d L))) (k : Fin 3) (sem : DmaSem sig)
    (hb : ∀ j, (src k).view.read (Elt F) (b k) j = bufAt L (rowWords h (L 1)) t.val (ix3 k (j 0) (j 1)))
    {dst : Memref sig .scVector .hbm S128x128 .f32} (e : dst = outM L t k)
    {fd : Vec F S16x6144x128 .f32} {α : Type} {Q : α → sProp 𝕄}
    {hsrc : (src k).view.WordExact} {hdst : dst.view.WordExact}
    {hsem : DmaTarget.Typed (nD := nD) (τ := τ) (p := (thr d L).2) .vmem (SemLoc.dma sem) (.here dst)}
    {kk : PUnit → Prog (TpuEff nD τ sig (Elt F) Λ₀ (thr d L).2) α} :
    iprop(((src k).view.loc (thr d L) ↦[(src k).view.set]{fullShare} b k)
        ∗ part d L fd t k
        ∗ Transfers.Batch EC (thr d L) (.dma sem) (none : HIx 1) NO (landed d L h t src b) k.val 0)
      ⊢ iprop((Transfers.Batch EC (thr d L) (.dma sem) (none : HIx 1) NO (landed d L h t src b) (k.val + 1) 0
            -∗ wp frame (wpE (defs₀ (F := F)) 𝒱₀ (thr d L) none) Set.univ (kk ⟨⟩) Q)
          -∗ wp frame (wpE (defs₀ (F := F)) 𝒱₀ (thr d L) none) Set.univ
            (.op (TpuEff.enqueueDma (src k) (.here dst) (.dma sem) hsrc hdst hsem) kk) Q) := by
  subst e
  exact send d L h t src b k sem hb

/-- The block of the result at an offset. -/
abbrev outAt (off : Fin 3 → ℕ) (inb : ∀ a, off a + S1x128x128.size a ≤ S16x6144x128.size a) : Memref sig .scVector .hbm S128x128 .f32 :=
  ((oV : Memref sig .scVector .hbm S16x6144x128 .f32).slice (Rect.unit (s := S16x6144x128) off S1x128x128.size inb)
    (fun _ => rfl)).squeeze S128x128 squeezes_S1x128x128_S128x128

/-- `wait3` for waits that name blocks of the result. -/
theorem wait3_out (t : Fin 8) (sem : DmaSem sig) (src : Fin 3 → Memref sig .scVector .vmem S128x128 .f32)
    (b : (k : Fin 3) → Buf (Elt F) ((src k).view.loc (thr d L)))
    {O : CellTallies nD τ sig (HIx 1)} {W : Waits sig (HIx 1)} {α : Type} {Q : α → sProp 𝕄}
    {s0 s1 s2 : Memref sig .scVector .vmem S128x128 .f32} {off0 off1 off2 : Fin 3 → ℕ} {inb0 inb1 inb2}
    {hs0 : s0.view.WordExact} {hs1 : s1.view.WordExact} {hs2 : s2.view.WordExact}
    {hd0 : (outAt off0 inb0).view.WordExact} {hd1 : (outAt off1 inb1).view.WordExact} {hd2 : (outAt off2 inb2).view.WordExact}
    {kk : PUnit → Prog (TpuEff nD τ sig (Elt F) Λ₀ (thr d L).2) α} :
    iprop(Transfers.Batch EC (thr d L) (.dma sem) (none : HIx 1) NO (landed d L h t src b) 3 0 ∗ owed d L O W
        ∗ Transfers.MayWaits (thr d L) (none : HIx 1) O)
      ⊢ iprop((iprop(block d L (outOf h) t
              ∗ (bigSep (Finset.univ : Finset (Fin 3)) fun k => (src k).view.loc (thr d L) ↦[(src k).view.set]{fullShare} b k)
              ∗ semVal (thr d L, .dma sem) 0 ∗ owed d L O W)
            -∗ wp frame (wpE (defs₀ (F := F)) 𝒱₀ (thr d L) none) Set.univ (kk ⟨⟩) Q)
          -∗ wp frame (wpE (defs₀ (F := F)) 𝒱₀ (thr d L) none) Set.univ
            (.op (TpuEff.waitDma2 sem s0 (outAt off0 inb0) hs0 hd0) fun _ =>
              .op (TpuEff.waitDma2 sem s1 (outAt off1 inb1) hs1 hd1) fun _ =>
                .op (TpuEff.waitDma2 sem s2 (outAt off2 inb2) hs2 hd2) kk) Q) :=
  wait3 d L h t sem src b (s0 := s0) (s1 := s1) (s2 := s2) (d0 := outAt off0 inb0) (d1 := outAt off1 inb1) (d2 := outAt off2 inb2) rfl rfl rfl

variable {O : CellTallies nD τ sig (HIx 1)} {W : Waits sig (HIx 1)}

/-- The first two copies of an even chunk started. -/
theorem startA_run (f₀ : Vec F S16x6144x128 .f32) (t : Fin k0_t2_loop.trips) (m : ℕ) (ht : t.val = 2 * m)
    {off0 off1 : Fin 3 → ℕ} {inb0 inb1} (e0 : off0 = outOff L (tt t) 0) (e1 : off1 = outOff L (tt t) 1) {hs0 hd0 hm0 hs1 hd1 hm1} :
    iprop(wPts d L (hw L h) ∗ aPts d L (chunk L (hw L h) t.val (prevA L h m)) ∗ semVal (thr d L, .dma cc0_scratch3.sem) 0
        ∗ block d L f₀ (tt t) ∗ back d L (outOf h) t.val ∗ owed d L O W)
      ⊢ wp frame (wpE (defs₀ (F := F)) 𝒱₀ (thr d L) none) Set.univ
          (.op (TpuEff.enqueueDma (planeA 0) (.here (((oV : Memref sig .scVector .hbm S16x6144x128 .f32).slice
              (Rect.unit (s := S16x6144x128) off0 S1x128x128.size inb0) (fun _ => rfl)).squeeze S128x128 squeezes_S1x128x128_S128x128))
              (.dma cc0_scratch3.sem) hs0 hd0 hm0) fun _ =>
            .op (TpuEff.enqueueDma (planeA 1) (.here (((oV : Memref sig .scVector .hbm S16x6144x128 .f32).slice
              (Rect.unit (s := S16x6144x128) off1 S1x128x128.size inb1) (fun _ => rfl)).squeeze S128x128 squeezes_S1x128x128_S128x128))
              (.dma cc0_scratch3.sem) hs1 hd1 hm1) fun _ => .ret PUnit.unit)
          (fun _ => iprop(wPts d L (hw L h) ∗ flyA d L h (tt t) 2
            ∗ ((planeA 2).view.loc (thr d L) ↦[(planeA 2).view.set]{fullShare} bufAt L (hw L h) (tt t).val)
            ∗ part d L f₀ (tt t) 2 ∗ back d L (outOf h) t.val ∗ owed d L O W)) := by
  have hc : chunk L (hw L h) t.val (prevA L h m) = bufAt L (hw L h) (tt t).val := by
    show _ = bufAt L (hw L h) t.val
    rw [ht]
    exact chunk_prevA L h m (by have := trips2 t; omega)
  iintro ⟨Hw, Ha, Hs, Hf, Hback, Ho⟩
  ihave Ha := (Entails.of_eq (show aPts d L (chunk L (hw L h) t.val (prevA L h m))
    = _ from by rw [hc, ← planesA_eq, planesA, bigSep_three])) $$ Ha
  icases Ha with ⟨Ha0, Ha1, Ha2⟩
  ihave Hf := (Entails.of_eq (show block d L f₀ (tt t) = _ from by rw [block, bigSep_three])) $$ Hf
  icases Hf with ⟨Hf0, Hf1, Hf2⟩
  iapply fupd_wp
  imod (Transfers.batch_alloc' EC (thr d L) (none : HIx 1) NO (landed d L h (tt t) planeA (fun _ => bufAt L (hw L h) (tt t).val))
    (sm := .dma cc0_scratch3.sem) (E := Set.univ)) $$ Hs with HB
  imodintro
  iapply (send_to d L h (tt t) planeA (fun _ => bufAt L (hw L h) (tt t).val) 0 cc0_scratch3.sem (fun j => read_A _ 0 j)
    (outM_eq L (tt t) 0 off0 inb0 e0)) $$ [Ha0 Hf0 HB]
  · isplitl [Ha0]; · iexact Ha0
    isplitl [Hf0]; · iexact Hf0
    iexact HB
  iintro HB
  iapply (send_to d L h (tt t) planeA (fun _ => bufAt L (hw L h) (tt t).val) 1 cc0_scratch3.sem (fun j => read_A _ 1 j)
    (outM_eq L (tt t) 1 off1 inb1 e1)) $$ [Ha1 Hf1 HB]
  · isplitl [Ha1]; · iexact Ha1
    isplitl [Hf1]; · iexact Hf1
    iexact HB
  iintro HB
  rw [wp_ret]
  imodintro
  isplitl [Hw]; · iexact Hw
  isplitl [HB]; · iexact HB
  isplitl [Ha2]; · iexact Ha2
  isplitl [Hf2]; · iexact Hf2
  isplitl [Hback]; · iexact Hback
  iexact Ho

/-- An even chunk up to its second copy: the buffer's last chunk waited for, both passes made, copies 0 and 1 started. -/
theorem part4_run (f₀ : Vec F S16x6144x128 .f32) (t : Fin k0_t2_loop.trips) (h1 : k0_cond1 t = 1#1) (m : ℕ) (ht : t.val = 2 * m) :
    iprop(sideA d L h m ∗ wPts d L (hw L h) ∗ block d L f₀ (tt t) ∗ owed d L O W ∗ Transfers.MayWaits (thr d L) (none : HIx 1) O)
      ⊢ wp frame (wpE (defs₀ (F := F)) 𝒱₀ (thr d L) none) Set.univ
          (k0_part4 (F := F) L hV (Memref.isWhole_whole _) oV (Memref.isWhole_whole _) wV (Memref.isWhole_whole _) bA (Memref.isWhole_whole _) bB (Memref.isWhole_whole _) cc0_scratch3 cc0_scratch4 cc0_scratch5
            lanes k0_pay28 t (cnt t) (base L t) h1)
          (fun _ => iprop(wPts d L (hw L h) ∗ flyA d L h (tt t) 2
            ∗ ((planeA 2).view.loc (thr d L) ↦[(planeA 2).view.set]{fullShare} bufAt L (hw L h) (tt t).val)
            ∗ part d L f₀ (tt t) 2 ∗ back d L (outOf h) t.val ∗ owed d L O W)) := by
  iintro ⟨HS, Hw, Hf, Ho, #HM⟩
  simp only [k0_part4_eq_skeleton]
  unfold k0_part4_skel
  simp only [Prog.lift, Prog.bind_op, Prog.bind_ret, Prog.pure_eq_ret]
  cases m with
  | zero =>
    have e : back d L (outOf h) t.val = iprop(emp) := dif_neg (by omega)
    unfold sideA
    icases HS with ⟨Hs, Ha⟩
    ihave Hback := (Entails.of_eq e.symm) $$ []
    · iempintro
    rw [dif_neg (fun hc => by have := (cond2_iff t).mp hc; omega)]
    rw [wp_bind]
    iapply (wp_wand_r frame (wpE (defs₀ (F := F)) 𝒱₀ (thr d L) none) Set.univ
      (Q := fun _ => iprop(wPts d L (hw L h) ∗ aPts d L (chunk L (hw L h) t.val (prevA L h 0)))))
    isplitl [Hw Ha]
    · iapply (chunkA_run d L t h1 (hw L h) (prevA L h 0)) $$ [Hw Ha]
      isplitl [Hw]; · iexact Hw
      iexact Ha
    iintro %_ ⟨Hw, Ha⟩
    iapply (startA_run d L h f₀ t 0 ht (off27_0 L t) (off27_1 L t)) $$ [Hw Ha Hs Hf Hback Ho]
    isplitl [Hw]; · iexact Hw
    isplitl [Ha]; · iexact Ha
    isplitl [Hs]; · iexact Hs
    isplitl [Hf]; · iexact Hf
    isplitl [Hback]; · iexact Hback
    iexact Ho
  | succ m =>
    rw [dif_pos ((cond2_iff t).mpr (by omega))]
    have e : back d L (outOf h) t.val = block d L (outOf h) (ch (2 * m)) := by
      rw [ht]
      exact back_succ d L (outOf h) (2 * m) (by have := trips2 t; omega)
    unfold sideA
    iapply (wait3_out d L h (ch (2 * m)) cc0_scratch3.sem planeA (fun _ => bufAt L (hw L h) (ch (2 * m)).val)) $$ [HS Ho]
    · isplitl [HS]; · iexact HS
      isplitl [Ho]; · iexact Ho
      iexact HM
    iintro ⟨Hb, Hp, Hs, Ho⟩
    ihave Ha := (Entails.of_eq (planesA_eq d L _)) $$ Hp
    ihave Hback := (Entails.of_eq e.symm) $$ Hb
    rw [wp_bind]
    iapply (wp_wand_r frame (wpE (defs₀ (F := F)) 𝒱₀ (thr d L) none) Set.univ
      (Q := fun _ => iprop(wPts d L (hw L h) ∗ aPts d L (chunk L (hw L h) t.val (prevA L h (m + 1))))))
    isplitl [Hw Ha]
    · iapply (chunkA_run d L t h1 (hw L h) (prevA L h (m + 1))) $$ [Hw Ha]
      isplitl [Hw]; · iexact Hw
      iexact Ha
    iintro %_ ⟨Hw, Ha⟩
    iapply (startA_run d L h f₀ t (m + 1) ht (off27_0 L t) (off27_1 L t)) $$ [Hw Ha Hs Hf Hback Ho]
    isplitl [Hw]; · iexact Hw
    isplitl [Ha]; · iexact Ha
    isplitl [Hs]; · iexact Hs
    isplitl [Hf]; · iexact Hf
    isplitl [Hback]; · iexact Hback
    iexact Ho

/-- The first two copies of an odd chunk started. -/
theorem startB_run (f₀ : Vec F S16x6144x128 .f32) (t : Fin k0_t2_loop.trips) (m : ℕ) (ht : t.val = 2 * m + 1)
    {off0 off1 : Fin 3 → ℕ} {inb0 inb1} (e0 : off0 = outOff L (tt t) 0) (e1 : off1 = outOff L (tt t) 1) {hs0 hd0 hm0 hs1 hd1 hm1} :
    iprop(wPts d L (hw L h) ∗ bPts d L (chunk L (hw L h) t.val (prevB L h m)) ∗ semVal (thr d L, .dma cc0_scratch4.sem) 0
        ∗ block d L f₀ (tt t) ∗ back d L (outOf h) t.val ∗ owed d L O W)
      ⊢ wp frame (wpE (defs₀ (F := F)) 𝒱₀ (thr d L) none) Set.univ
          (.op (TpuEff.enqueueDma (planeB 0) (.here (((oV : Memref sig .scVector .hbm S16x6144x128 .f32).slice
              (Rect.unit (s := S16x6144x128) off0 S1x128x128.size inb0) (fun _ => rfl)).squeeze S128x128 squeezes_S1x128x128_S128x128))
              (.dma cc0_scratch4.sem) hs0 hd0 hm0) fun _ =>
            .op (TpuEff.enqueueDma (planeB 1) (.here (((oV : Memref sig .scVector .hbm S16x6144x128 .f32).slice
              (Rect.unit (s := S16x6144x128) off1 S1x128x128.size inb1) (fun _ => rfl)).squeeze S128x128 squeezes_S1x128x128_S128x128))
              (.dma cc0_scratch4.sem) hs1 hd1 hm1) fun _ => .ret PUnit.unit)
          (fun _ => iprop(wPts d L (hw L h) ∗ flyB d L h (tt t) 2
            ∗ ((planeB 2).view.loc (thr d L) ↦[(planeB 2).view.set]{fullShare} bufAt L (hw L h) (tt t).val)
            ∗ part d L f₀ (tt t) 2 ∗ back d L (outOf h) t.val ∗ owed d L O W)) := by
  have hc : chunk L (hw L h) t.val (prevB L h m) = bufAt L (hw L h) (tt t).val := by
    show _ = bufAt L (hw L h) t.val
    rw [ht]
    exact chunk_prevB L h m (by have := trips2 t; omega)
  iintro ⟨Hw, Ha, Hs, Hf, Hback, Ho⟩
  ihave Ha := (Entails.of_eq (show bPts d L (chunk L (hw L h) t.val (prevB L h m))
    = _ from by rw [hc, ← planesB_eq, planesB, bigSep_three])) $$ Ha
  icases Ha with ⟨Ha0, Ha1, Ha2⟩
  ihave Hf := (Entails.of_eq (show block d L f₀ (tt t) = _ from by rw [block, bigSep_three])) $$ Hf
  icases Hf with ⟨Hf0, Hf1, Hf2⟩
  iapply fupd_wp
  imod (Transfers.batch_alloc' EC (thr d L) (none : HIx 1) NO (landed d L h (tt t) planeB (fun _ => bufAt L (hw L h) (tt t).val))
    (sm := .dma cc0_scratch4.sem) (E := Set.univ)) $$ Hs with HB
  imodintro
  iapply (send_to d L h (tt t) planeB (fun _ => bufAt L (hw L h) (tt t).val) 0 cc0_scratch4.sem (fun j => read_B _ 0 j)
    (outM_eq L (tt t) 0 off0 inb0 e0)) $$ [Ha0 Hf0 HB]
  · isplitl [Ha0]; · iexact Ha0
    isplitl [Hf0]; · iexact Hf0
    iexact HB
  iintro HB
  iapply (send_to d L h (tt t) planeB (fun _ => bufAt L (hw L h) (tt t).val) 1 cc0_scratch4.sem (fun j => read_B _ 1 j)
    (outM_eq L (tt t) 1 off1 inb1 e1)) $$ [Ha1 Hf1 HB]
  · isplitl [Ha1]; · iexact Ha1
    isplitl [Hf1]; · iexact Hf1
    iexact HB
  iintro HB
  rw [wp_ret]
  imodintro
  isplitl [Hw]; · iexact Hw
  isplitl [HB]; · iexact HB
  isplitl [Ha2]; · iexact Ha2
  isplitl [Hf2]; · iexact Hf2
  isplitl [Hback]; · iexact Hback
  iexact Ho

/-- An odd chunk up to its second copy: the buffer's last chunk waited for, both passes made, copies 0 and 1 started. -/
theorem part8_run (f₀ : Vec F S16x6144x128 .f32) (t : Fin k0_t2_loop.trips) (h1 : k0_cond3 t = 1#1) (m : ℕ) (ht : t.val = 2 * m + 1) :
    iprop(sideB d L h m ∗ wPts d L (hw L h) ∗ block d L f₀ (tt t) ∗ owed d L O W ∗ Transfers.MayWaits (thr d L) (none : HIx 1) O)
      ⊢ wp frame (wpE (defs₀ (F := F)) 𝒱₀ (thr d L) none) Set.univ
          (k0_part8 (F := F) L hV (Memref.isWhole_whole _) oV (Memref.isWhole_whole _) wV (Memref.isWhole_whole _) bA (Memref.isWhole_whole _) bB (Memref.isWhole_whole _) cc0_scratch3 cc0_scratch4 cc0_scratch5
            lanes (k0_pay27 (F := F)) k0_pay28 t (cnt t) (base L t) h1)
          (fun _ => iprop(wPts d L (hw L h) ∗ flyB d L h (tt t) 2
            ∗ ((planeB 2).view.loc (thr d L) ↦[(planeB 2).view.set]{fullShare} bufAt L (hw L h) (tt t).val)
            ∗ part d L f₀ (tt t) 2 ∗ back d L (outOf h) t.val ∗ owed d L O W)) := by
  iintro ⟨HS, Hw, Hf, Ho, #HM⟩
  simp only [k0_part8_eq_skeleton]
  unfold k0_part8_skel
  simp only [Prog.lift, Prog.bind_op, Prog.bind_ret, Prog.pure_eq_ret]
  cases m with
  | zero =>
    have e : back d L (outOf h) t.val = iprop(emp) := dif_neg (by omega)
    unfold sideB
    icases HS with ⟨Hs, Ha⟩
    ihave Hback := (Entails.of_eq e.symm) $$ []
    · iempintro
    icases Ha with ⟨%b, Ha⟩
    have h4 : k0_cond4 t = 1#1 := (cond4_iff t).mpr (by omega)
    rw [dif_pos h4]
    rw [wp_bind]
    iapply (wp_wand_r frame (wpE (defs₀ (F := F)) 𝒱₀ (thr d L) none) Set.univ (Q := fun _ => iprop(bPts d L zeros)))
    isplitl [Ha]
    · iapply (zeroB_run d L (cnt t) (base L t) t h1 h4 b) $$ Ha
    iintro %_ Ha
    rw [dif_neg (fun hc => by have := (cond5_iff t).mp hc; omega)]
    rw [wp_bind]
    iapply (wp_wand_r frame (wpE (defs₀ (F := F)) 𝒱₀ (thr d L) none) Set.univ
      (Q := fun _ => iprop(wPts d L (hw L h) ∗ bPts d L (chunk L (hw L h) t.val (prevB L h 0)))))
    isplitl [Hw Ha]
    · iapply (chunkB_run d L t h1 (hw L h) (prevB L h 0)) $$ [Hw Ha]
      isplitl [Hw]; · iexact Hw
      iexact Ha
    iintro %_ ⟨Hw, Ha⟩
    iapply (startB_run d L h f₀ t 0 ht (off53_0 L t) (off53_1 L t)) $$ [Hw Ha Hs Hf Hback Ho]
    isplitl [Hw]; · iexact Hw
    isplitl [Ha]; · iexact Ha
    isplitl [Hs]; · iexact Hs
    isplitl [Hf]; · iexact Hf
    isplitl [Hback]; · iexact Hback
    iexact Ho
  | succ m =>
    rw [dif_neg (fun hc => by have := (cond4_iff t).mp hc; omega)]
    rw [dif_pos ((cond5_iff t).mpr (by omega))]
    have e : back d L (outOf h) t.val = block d L (outOf h) (ch (2 * m + 1)) := by
      rw [ht]
      exact back_succ d L (outOf h) (2 * m + 1) (by have := trips2 t; omega)
    unfold sideB
    iapply (wait3_out d L h (ch (2 * m + 1)) cc0_scratch4.sem planeB (fun _ => bufAt L (hw L h) (ch (2 * m + 1)).val)) $$ [HS Ho]
    · isplitl [HS]; · iexact HS
      isplitl [Ho]; · iexact Ho
      iexact HM
    iintro ⟨Hb, Hp, Hs, Ho⟩
    ihave Ha := (Entails.of_eq (planesB_eq d L _)) $$ Hp
    ihave Hback := (Entails.of_eq e.symm) $$ Hb
    rw [wp_bind]
    iapply (wp_wand_r frame (wpE (defs₀ (F := F)) 𝒱₀ (thr d L) none) Set.univ
      (Q := fun _ => iprop(wPts d L (hw L h) ∗ bPts d L (chunk L (hw L h) t.val (prevB L h (m + 1))))))
    isplitl [Hw Ha]
    · iapply (chunkB_run d L t h1 (hw L h) (prevB L h (m + 1))) $$ [Hw Ha]
      isplitl [Hw]; · iexact Hw
      iexact Ha
    iintro %_ ⟨Hw, Ha⟩
    iapply (startB_run d L h f₀ t (m + 1) ht (off53_0 L t) (off53_1 L t)) $$ [Hw Ha Hs Hf Hback Ho]
    isplitl [Hw]; · iexact Hw
    isplitl [Ha]; · iexact Ha
    isplitl [Hs]; · iexact Hs
    isplitl [Hf]; · iexact Hf
    isplitl [Hback]; · iexact Hback
    iexact Ho

/-- The sides after an even trip, and after an odd one. -/
theorem sideA_succ (m : ℕ) (t : Fin 8) (ht : t.val = 2 * m) : sideA d L h (m + 1) = flyA d L h t ((2 : Fin 3).val + 1) := by
  have e : ch (2 * m) = t := Fin.ext (by show 2 * m % 8 = t.val; omega)
  show flyA d L h (ch (2 * m)) 3 = _
  rw [e]; rfl
theorem sideB_succ (m : ℕ) (t : Fin 8) (ht : t.val = 2 * m + 1) : sideB d L h (m + 1) = flyB d L h t ((2 : Fin 3).val + 1) := by
  have e : ch (2 * m + 1) = t := Fin.ext (by show (2 * m + 1) % 8 = t.val; omega)
  show flyB d L h (ch (2 * m + 1)) 3 = _
  rw [e]; rfl

/-- The state of the tile before trip `n` of the chunk loop. -/
def tripInv (f₀ : Vec F S16x6144x128 .f32) (O : CellTallies nD τ sig (HIx 1)) (W : Waits sig (HIx 1)) (n : ℕ) : sProp 𝕄 :=
  iprop(sideA d L h ((n + 1) / 2) ∗ sideB d L h (n / 2) ∗ wPts d L (hw L h) ∗ pieces d L f₀ (outOf h) n ∗ owed d L O W
    ∗ Transfers.MayWaits (thr d L) (none : HIx 1) O)

/-- One trip of the chunk loop. -/
theorem trip_run (f₀ : Vec F S16x6144x128 .f32) (t : Fin k0_t2_loop.trips) (acc : BitVec 32) :
    tripInv d L h f₀ O W t.val
      ⊢ wp frame (wpE (defs₀ (F := F)) 𝒱₀ (thr d L) none) Set.univ
          (k0_t2_body L hV (Memref.isWhole_whole _) oV (Memref.isWhole_whole _) wV (Memref.isWhole_whole _) bA (Memref.isWhole_whole _) bB (Memref.isWhole_whole _) cc0_scratch3 cc0_scratch4 cc0_scratch5
            (BitVec.ofNat 32 (L 0).val) lanes t acc)
          (fun _ => tripInv d L h f₀ O W (t.val + 1)) := by
  unfold tripInv
  iintro ⟨HA, HB, Hw, Hp, Ho, #HM⟩
  ihave Hp := (pieces_step d L f₀ (outOf h) (tt t)) $$ Hp
  icases Hp with ⟨Hf, Hp⟩
  unfold k0_t2_body
  simp only [Prog.lift, Prog.bind_op, Prog.bind_ret, Prog.pure_eq_ret]
  rcases Nat.mod_two_eq_zero_or_one t.val with hpar | hpar
  · have h1 : k0_cond1 t = 1#1 := (cond1_iff t).mpr hpar
    have h3 : ¬k0_cond3 t = 1#1 := fun hc => by have := (cond3_iff t).mp hc; omega
    have ht : t.val = 2 * (t.val / 2) := by omega
    rw [dif_pos h1, wp_bind]
    have e1 : (t.val + 1) / 2 = t.val / 2 := by omega
    have e2 : (t.val + 1 + 1) / 2 = t.val / 2 + 1 := by omega
    rw [e1, e2]
    iapply (wp_wand_r frame (wpE (defs₀ (F := F)) 𝒱₀ (thr d L) none) Set.univ (Q := fun _ => iprop(wPts d L (hw L h) ∗ flyA d L h (tt t) 2
            ∗ ((planeA 2).view.loc (thr d L) ↦[(planeA 2).view.set]{fullShare} bufAt L (hw L h) (tt t).val)
            ∗ part d L f₀ (tt t) 2 ∗ back d L (outOf h) t.val ∗ owed d L O W)))
    isplitl [HA Hw Hf Ho]
    · iapply (part4_run d L h f₀ t h1 (t.val / 2) ht) $$ [HA Hw Hf Ho]
      isplitl [HA]; · iexact HA
      isplitl [Hw]; · iexact Hw
      isplitl [Hf]; · iexact Hf
      isplitl [Ho]; · iexact Ho
      iexact HM
    iintro %_ ⟨Hw, Hfly, Ha2, Hf2, Hback, Ho⟩
    iapply (send_to d L h (tt t) planeA (fun _ => bufAt L (hw L h) (tt t).val) 2 cc0_scratch3.sem (fun j => read_A _ 2 j)
      (outM_eq L (tt t) 2 _ _ (off27_2 L t))) $$ [Ha2 Hf2 Hfly]
    · isplitl [Ha2]; · iexact Ha2
      isplitl [Hf2]; · iexact Hf2
      iexact Hfly
    iintro Hfly
    rw [dif_neg h3, wp_ret]
    imodintro
    isplitl [Hfly]; · iapply (Entails.of_eq (sideA_succ d L h (t.val / 2) (tt t) ht).symm) $$ Hfly
    isplitl [HB]; · iexact HB
    isplitl [Hw]; · iexact Hw
    isplitl [Hp Hback]; · iapply Hp $$ Hback
    isplitl [Ho]; · iexact Ho
    iexact HM
  · have h1 : ¬k0_cond1 t = 1#1 := fun hc => by have := (cond1_iff t).mp hc; omega
    have h3 : k0_cond3 t = 1#1 := (cond3_iff t).mpr hpar
    have ht : t.val = 2 * (t.val / 2) + 1 := by omega
    rw [dif_neg h1, dif_pos h3, wp_bind]
    have e1 : (t.val + 1) / 2 = t.val / 2 + 1 := by omega
    have e2 : (t.val + 1 + 1) / 2 = t.val / 2 + 1 := by omega
    rw [e1, e2]
    iapply (wp_wand_r frame (wpE (defs₀ (F := F)) 𝒱₀ (thr d L) none) Set.univ (Q := fun _ => iprop(wPts d L (hw L h) ∗ flyB d L h (tt t) 2
            ∗ ((planeB 2).view.loc (thr d L) ↦[(planeB 2).view.set]{fullShare} bufAt L (hw L h) (tt t).val)
            ∗ part d L f₀ (tt t) 2 ∗ back d L (outOf h) t.val ∗ owed d L O W)))
    isplitl [HB Hw Hf Ho]
    · iapply (part8_run d L h f₀ t h3 (t.val / 2) ht) $$ [HB Hw Hf Ho]
      isplitl [HB]; · iexact HB
      isplitl [Hw]; · iexact Hw
      isplitl [Hf]; · iexact Hf
      isplitl [Ho]; · iexact Ho
      iexact HM
    iintro %_ ⟨Hw, Hfly, Ha2, Hf2, Hback, Ho⟩
    iapply (send_to d L h (tt t) planeB (fun _ => bufAt L (hw L h) (tt t).val) 2 cc0_scratch4.sem (fun j => read_B _ 2 j)
      (outM_eq L (tt t) 2 _ _ (off53_2 L t))) $$ [Ha2 Hf2 Hfly]
    · isplitl [Ha2]; · iexact Ha2
      isplitl [Hf2]; · iexact Hf2
      iexact Hfly
    iintro Hfly
    rw [wp_ret]
    imodintro
    isplitl [HA]; · iexact HA
    isplitl [Hfly]; · iapply (Entails.of_eq (sideB_succ d L h (t.val / 2) (tt t) ht).symm) $$ Hfly
    isplitl [Hw]; · iexact Hw
    isplitl [Hp Hback]; · iapply Hp $$ Hback
    isplitl [Ho]; · iexact Ho
    iexact HM

/-- The chunk loop. -/
theorem trips_run (f₀ : Vec F S16x6144x128 .f32) :
    tripInv d L h f₀ O W 0
      ⊢ wp frame (wpE (defs₀ (F := F)) 𝒱₀ (thr d L) none) Set.univ
          (Scf.Loop.for k0_t2_loop k0_t2_ok 0#32 (k0_t2_body L hV (Memref.isWhole_whole _) oV (Memref.isWhole_whole _) wV (Memref.isWhole_whole _) bA (Memref.isWhole_whole _) bB (Memref.isWhole_whole _) cc0_scratch3 cc0_scratch4 cc0_scratch5
            (BitVec.ofNat 32 (L 0).val) lanes))
          (fun _ => tripInv d L h f₀ O W 8) :=
  for_run d L _ _ _ _ (tripInv d L h f₀ O W) (fun t acc => trip_run d L h f₀ t acc)

end Cert.Proof.Hist

end
-- ==== Proof.Tile.lean ====
/-
  The whole of a tile's run: its row of hash words fetched while the even chunks' buffer is zeroed, the chunk loop, and
  the waits for the last two chunks' copies.
-/
module

public import proofs.«01_k».proof.Proof.Chunks

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

variable (d : Dev nD) (L : grid0.Coords)

/-! ## The fetch -/

/-- The tile's row of the flat hash words. -/
abbrev rowM : Memref sig .scVector .hbm S512 .i32 :=
  (hV : Memref sig .scVector .hbm S8192 .i32).slice (Rect.unit (s := S8192) (k0_off1 L) S512.size (k0_off1_inb L)) (fun _ => rfl)

/-- The words of row `b`. -/
def rowSet (b : ℕ) : Finset S8192.Idx := Finset.univ.filter fun x => (x 0).val / 512 = b

theorem set_rowM : (rowM L).view.set = rowSet (L 1).val := by
  show ((hV : Memref sig .scVector .hbm S8192 .i32).view.slice (Rect.unit (s := S8192) (k0_off1 L) S512.size (k0_off1_inb L))).set = _
  erw [View.set_slice_whole]
  ext x
  have h1 := L1_lt L
  have x0 : (x 0).val < 8192 := (x 0).isLt
  unfold rowSet
  rw [Rect.mem_set_unit, Finset.mem_filter]
  have e : k0_off1 L 0 = 512 * (L 1).val := by rw [k0_off1_eq L]; rfl
  constructor
  · intro h
    have e0 : k0_off1 L 0 ≤ (x 0).val ∧ (x 0).val < k0_off1 L 0 + 512 := h 0
    exact ⟨Finset.mem_univ _, by omega⟩
  · rintro ⟨-, e0⟩ a
    match a with
    | 0 => show k0_off1 L 0 ≤ (x 0).val ∧ (x 0).val < k0_off1 L 0 + 512; omega

theorem read_rowM (h : Vec F S8192 .i32) : (rowM L).view.read (Elt F) h = rowWords h (L 1) := by
  funext j
  rw [View.read_apply]
  have e : k0_off1 L 0 = 512 * (L 1).val := by rw [k0_off1_eq L]; rfl
  show h ((rowM L).view.emb j) = h _
  congr 1
  have e1 : (rowM L).view.emb j = (Rect.unit (s := S8192) (k0_off1 L) S512.size (k0_off1_inb L)).emb j := rfl
  rw [e1]
  funext a; apply Fin.ext
  rw [ValueKit.rect_emb_unit_val]
  match a with
  | 0 => show k0_off1 L 0 + (j 0).val = 512 * (L 1).val + (j 0).val; omega

/-- The fetch's credit. -/
abbrev NH : ℕ := (wV : Memref sig .scVector .vmem S512 .i32).view.dmaCredit
theorem NH_pos : 0 < NH := View.dmaCredit_pos _ (by decide)

/-- What the fetch hands back: the hash words in the tile's memory, and the row it read. -/
abbrev fetched (q : PosShare TreeShare) (h : Vec F S8192 .i32) (_ : Fin 1) : sProp 𝕄 :=
  iprop(wPts d L (hw L h) ∗ ((rowM L).view.loc (thr d L) ↦[(rowM L).view.set]{q} h))

/-- Starting the fetch. -/
theorem fetch_start (q : PosShare TreeShare) (h : Vec F S8192 .i32) {w : Vec F S512 .i32} {α : Type} {Q : α → sProp 𝕄}
    {hsrc : (rowM L).view.WordExact} {hdst : (wV : Memref sig .scVector .vmem S512 .i32).view.WordExact}
    {hsem : DmaTarget.Typed (nD := nD) (τ := τ) (p := (thr d L).2) .hbm (SemLoc.dma cc0_scratch5.sem) (.here wV)}
    {kk : PUnit → Prog (TpuEff nD τ sig (Elt F) Λ₀ (thr d L).2) α} :
    iprop(((rowM L).view.loc (thr d L) ↦[(rowM L).view.set]{q} h) ∗ wPts d L w
        ∗ Transfers.Batch EC (thr d L) (.dma cc0_scratch5.sem) (none : HIx 1) NH (fetched d L q h) 0 0)
      ⊢ iprop((Transfers.Batch EC (thr d L) (.dma cc0_scratch5.sem) (none : HIx 1) NH (fetched d L q h) 1 0
            -∗ wp frame (wpE (defs₀ (F := F)) 𝒱₀ (thr d L) none) Set.univ (kk ⟨⟩) Q)
          -∗ wp frame (wpE (defs₀ (F := F)) 𝒱₀ (thr d L) none) Set.univ
            (.op (TpuEff.enqueueDma (rowM L) (.here wV) (.dma cc0_scratch5.sem) hsrc hdst hsem) kk) Q) := by
  refine Transfers.wp_dmaBatch EC 𝒱₀ (thr d L) none (none : HIx 1) NH (n := 1) (D := fetched d L q h) (j := 0) (u := 0)
    (src := rowM L) (dst := wV) (q := q) (fs := h) (fd := w) (Sd := Finset.univ)
    (show (wV : Memref sig .scVector .vmem S512 .i32).view.amount (.dma cc0_scratch5.sem) = NH from rfl) (Finset.subset_univ _) Nat.one_pos
    (Nat.zero_le _) ?_
  iintro ⟨Hw, Hs⟩
  isplitl [Hw]
  · iapply (Entails.of_eq (pointsTo_congr (I := Finset.univ) (q := fullShare) (g := hw L h) ?_)) $$ Hw
    intro i _
    refine (congrFun (View.write_whole_univ _ _ _) i).trans ?_
    exact congrFun (read_rowM L h) i
  · iexact Hs

/-! ## The tile's own memory -/

theorem ownSems_tile :
    (ownSems0 (thr d L) : sProp 𝕄)
      = iprop(semVal (thr d L, .dma cc0_scratch3.sem) 0 ∗ semVal (thr d L, .dma cc0_scratch4.sem) 0 ∗ semVal (thr d L, .dma cc0_scratch5.sem) 0
          ∗ bigSep ((((ownCells (thr d L)).erase (thr d L, .dma cc0_scratch3.sem)).erase (thr d L, .dma cc0_scratch4.sem)).erase
              (thr d L, .dma cc0_scratch5.sem)) fun g => semVal g 0) := by
  have ne43 : ((thr d L, SemLoc.dma cc0_scratch4.sem) : GSem nD τ sig) ≠ (thr d L, SemLoc.dma cc0_scratch3.sem) :=
    fun e => absurd (Prod.mk.inj e).2 (by decide)
  have ne53 : ((thr d L, SemLoc.dma cc0_scratch5.sem) : GSem nD τ sig) ≠ (thr d L, SemLoc.dma cc0_scratch3.sem) :=
    fun e => absurd (Prod.mk.inj e).2 (by decide)
  have ne54 : ((thr d L, SemLoc.dma cc0_scratch5.sem) : GSem nD τ sig) ≠ (thr d L, SemLoc.dma cc0_scratch4.sem) :=
    fun e => absurd (Prod.mk.inj e).2 (by decide)
  unfold SparseCore.Cfg.ownSems0
  rw [SparseCore.bigSep_erase' ((mem_ownCells (g := (thr d L, SemLoc.dma cc0_scratch3.sem))).mpr ⟨rfl, by
      show (SemLoc.dma cc0_scratch3.sem : SemLoc sig).isScoped .scVector = true; decide⟩),
    SparseCore.bigSep_erase' (Finset.mem_erase.mpr ⟨ne43, (mem_ownCells (g := (thr d L, SemLoc.dma cc0_scratch4.sem))).mpr ⟨rfl, by
      show (SemLoc.dma cc0_scratch4.sem : SemLoc sig).isScoped .scVector = true; decide⟩⟩),
    SparseCore.bigSep_erase' (Finset.mem_erase.mpr ⟨ne54, Finset.mem_erase.mpr ⟨ne53,
      (mem_ownCells (g := (thr d L, SemLoc.dma cc0_scratch5.sem))).mpr ⟨rfl, by
        show (SemLoc.dma cc0_scratch5.sem : SemLoc sig).isScoped .scVector = true; decide⟩⟩⟩)]

/-- The tile's buffers besides its three. -/
abbrev tileRefs : Finset (DevRef τ sig) :=
  (((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)

theorem ownBufs_tile :
    (ownBufs (thr d L) : sProp 𝕄)
      = iprop((∃ w, wPts d L w) ∗ (∃ b, aPts d L b) ∗ (∃ b, bPts d L b)
          ∗ bigSep (tileRefs L) fun b => iprop(∃ f, ((d, b) : Loc nD τ sig) ↦{fullShare} f)) := by
  have ne10 : (Proc.scVector (cV L) (jV L)).devRef cc0_scratch1 ≠ (Proc.scVector (cV L) (jV L)).devRef cc0_scratch0 :=
    fun e => absurd (Proc.devRef_injective _ e) (show (cc0_scratch1 : Ref sig .scVector) ≠ cc0_scratch0 by decide)
  have ne20 : (Proc.scVector (cV L) (jV L)).devRef cc0_scratch2 ≠ (Proc.scVector (cV L) (jV L)).devRef cc0_scratch0 :=
    fun e => absurd (Proc.devRef_injective _ e) (show (cc0_scratch2 : Ref sig .scVector) ≠ cc0_scratch0 by decide)
  have ne21 : (Proc.scVector (cV L) (jV L)).devRef cc0_scratch2 ≠ (Proc.scVector (cV L) (jV L)).devRef cc0_scratch1 :=
    fun e => absurd (Proc.devRef_injective _ e) (show (cc0_scratch2 : Ref sig .scVector) ≠ cc0_scratch1 by decide)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne10,
      SparseCore.Cfg.mem_ownRefs_of_owner (p := Proc.scVector (cV L) (jV L)) (b := (Proc.scVector (cV L) (jV L)).devRef cc0_scratch1) rfl⟩),
    SparseCore.bigSep_erase' (Finset.mem_erase.mpr ⟨ne21, Finset.mem_erase.mpr ⟨ne20,
      SparseCore.Cfg.mem_ownRefs_of_owner (p := Proc.scVector (cV L) (jV L)) (b := (Proc.scVector (cV L) (jV L)).devRef cc0_scratch2) rfl⟩⟩)]
  rfl

/-! ## The run -/

variable (h : Vec F S8192 .i32) (f₀ : Vec F S16x6144x128 .f32)

/-- What the tile is given: a share of its row of hash words, and its blocks of the result as found. -/
abbrev given (q : PosShare TreeShare) : sProp 𝕄 :=
  iprop((hLoc d ↦[rowSet (L 1).val]{q} h) ∗ bigSep (Finset.univ : Finset (Fin 8)) (block d L f₀))
/-- What it hands back: its blocks of the result, final. -/
abbrev made : sProp 𝕄 := bigSep (Finset.univ : Finset (Fin 8)) (block d L (outOf h))

/-- The tile's run from its scratch memory and semaphores. -/
theorem kernel_run (q : PosShare TreeShare) {O : CellTallies nD τ sig (HIx 1)} {W : Waits sig (HIx 1)}
    (w : Vec F S512 .i32) (a : Vec F S3x128x128 .f32) :
    iprop(given d L h f₀ q ∗ wPts d L w ∗ aPts d L a ∗ (∃ b, bPts d L b)
        ∗ (semVal (thr d L, .dma cc0_scratch3.sem) 0 ∗ semVal (thr d L, .dma cc0_scratch4.sem) 0 ∗ semVal (thr d L, .dma cc0_scratch5.sem) 0)
        ∗ owed d L O W ∗ Transfers.MayWaits (thr d L) (none : HIx 1) O)
      ⊢ wp frame (wpE (defs₀ (F := F)) 𝒱₀ (thr d L) none) Set.univ
          (cc0__sc_kernel (F := F) L hV (Memref.isWhole_whole _) oV (Memref.isWhole_whole _) wV (Memref.isWhole_whole _) bA (Memref.isWhole_whole _) bB (Memref.isWhole_whole _) cc0_scratch3 cc0_scratch4 cc0_scratch5)
          (fun _ => iprop(made d L h ∗ (∃ w, wPts d L w) ∗ (∃ b, aPts d L b) ∗ (∃ b, bPts d L b)
            ∗ (semVal (thr d L, .dma cc0_scratch3.sem) 0 ∗ semVal (thr d L, .dma cc0_scratch4.sem) 0 ∗ semVal (thr d L, .dma cc0_scratch5.sem) 0)
            ∗ owed d L O W)) := by
  iintro ⟨⟨Hh, Hf⟩, Hw, Ha, Hb, ⟨HsA, HsB, HsH⟩, Ho, #HM⟩
  simp only [cc0__sc_kernel_eq_skeleton]
  unfold cc0__sc_kernel_skel
  simp only [k0_part9_eq_skeleton, k0_part10_eq_skeleton]
  unfold k0_part9_skel k0_part10_skel
  simp only [Prog.lift, Prog.bind_op, Prog.bind_ret, Prog.pure_eq_ret, Prog.bind_assoc]
  ihave Hh := (Entails.of_eq (show (hLoc d ↦[rowSet (L 1).val]{q} h : sProp 𝕄)
    = ((rowM L).view.loc (thr d L) ↦[(rowM L).view.set]{q} h) from by rw [set_rowM])) $$ Hh
  iapply fupd_wp
  imod (Transfers.batch_alloc' EC (thr d L) (none : HIx 1) NH (fetched d L q h) (sm := .dma cc0_scratch5.sem) (E := Set.univ)) $$ HsH with HB
  imodintro
  iapply (fetch_start d L q h) $$ [Hh Hw HB]
  · isplitl [Hh]; · iexact Hh
    isplitl [Hw]; · iexact Hw
    iexact HB
  iintro HB
  rw [wp_bind]
  iapply (wp_wand_r frame (wpE (defs₀ (F := F)) 𝒱₀ (thr d L) none) Set.univ (Q := fun _ => iprop(aPts d L zeros)))
  isplitl [Ha]
  · iapply (zeroA_run d L a) $$ Ha
  iintro %_ Ha
  icases Ho with ⟨%W', %hW, Ho⟩
  ihave HW := Transfers.MayWaits.elim (.dma cc0_scratch5.sem) $$ HM
  iapply (Transfers.wp_waitBatchLastO EC 𝒱₀ (thr d L) none (none : HIx 1) rfl NH_pos (n := 1) (N := NH) (D := fetched d L q h) (u := 0) (by omega)) $$ [HB Ho HW]
  · isplitl [HB]; · iexact HB
    isplitl [Ho]; · iexact Ho
    iexact HW
  iintro ⟨HD, HsH, Ho⟩
  ihave HD := (Entails.of_eq (bigSep_univ_of_subsingleton (Φ := fetched d L q h) (0 : Fin 1))) $$ HD
  icases HD with ⟨Hw, -⟩
  rw [wp_bind]
  iapply (wp_wand_r frame (wpE (defs₀ (F := F)) 𝒱₀ (thr d L) none) Set.univ (Q := fun _ => tripInv d L h f₀ O W 8))
  isplitl [HsA Ha HsB Hb Hw Hf Ho]
  · iapply (trips_run d L h f₀)
    unfold tripInv
    isplitl [HsA Ha]
    · iapply (Entails.of_eq (show iprop(semVal (thr d L, .dma cc0_scratch3.sem) 0 ∗ aPts d L zeros) = sideA d L h ((0 + 1) / 2) from rfl))
      isplitl [HsA]; · iexact HsA
      iexact Ha
    isplitl [HsB Hb]
    · iapply (Entails.of_eq (show iprop(semVal (thr d L, .dma cc0_scratch4.sem) 0 ∗ ∃ b, bPts d L b) = sideB d L h (0 / 2) from rfl))
      isplitl [HsB]; · iexact HsB
      iexact Hb
    isplitl [Hw]; · iexact Hw
    isplitl [Hf]; · iapply (Entails.of_eq (pieces_zero d L f₀ (outOf h)).symm) $$ Hf
    isplitl [Ho]
    · iexists insert (SemLoc.dma cc0_scratch5.sem, none) W'
      isplitr
      · ipureintro
        exact waits_insert hW
      iexact Ho
    iexact HM
  iintro %_ HI
  ihave HI := (Entails.of_eq (show tripInv d L h f₀ O W 8 = iprop(flyA d L h 6 3 ∗ flyB d L h 7 3 ∗ wPts d L (hw L h)
    ∗ pieces d L f₀ (outOf h) 8 ∗ owed d L O W ∗ Transfers.MayWaits (thr d L) (none : HIx 1) O) from rfl)) $$ HI
  icases HI with ⟨HA, HB, Hw, Hp, Ho, -⟩
  iapply (wait3_out d L h 6 cc0_scratch3.sem planeA (fun _ => bufAt L (hw L h) (6 : Fin 8).val)) $$ [HA Ho]
  · isplitl [HA]; · iexact HA
    isplitl [Ho]; · iexact Ho
    iexact HM
  iintro ⟨H6, Ha, HsA, Ho⟩
  iapply (wait3_out d L h 7 cc0_scratch4.sem planeB (fun _ => bufAt L (hw L h) (7 : Fin 8).val)) $$ [HB Ho]
  · isplitl [HB]; · iexact HB
    isplitl [Ho]; · iexact Ho
    iexact HM
  iintro ⟨H7, Hb, HsB, Ho⟩
  ihave Ha := (Entails.of_eq (planesA_eq d L _)) $$ Ha
  ihave Hb := (Entails.of_eq (planesB_eq d L _)) $$ Hb
  rw [wp_ret]
  imodintro
  isplitl [Hp H6 H7]
  · iapply (pieces_end d L f₀ (outOf h)) $$ [Hp H6 H7]
    isplitl [Hp]; · iexact Hp
    isplitl [H6]; · iexact H6
    iexact H7
  isplitl [Hw]; · iexists _; iexact Hw
  isplitl [Ha]; · iexists _; iexact Ha
  isplitl [Hb]; · iexists _; iexact Hb
  isplitl [HsA HsB HsH]
  · isplitl [HsA]; · iexact HsA
    isplitl [HsB]; · iexact HsB
    iexact HsH
  iexact Ho

/-- The tile's run as the launch asks for it. -/
theorem tile_run (q : PosShare TreeShare) (hF : (K (F := F)).Facts) (O : CellTallies nD τ sig (HIx 1)) (W : Waits sig (HIx 1))
    (hO : ∀ g, O g none = 0) :
    iprop(levAts (K (F := F)).L (K (F := F)).lev ∗ emp ∗ given d L h f₀ q
        ∗ scopedBufs (thr d L) ∗ scopedSems0 (thr d L) ∗ owes (thr d L) O W)
      ⊢ wp frame (wpE (defs₀ (F := F)) 𝒱₀ (thr d L) none) Set.univ
          (cc0__sc_kernel (F := F) L hV (Memref.isWhole_whole _) oV (Memref.isWhole_whole _) wV (Memref.isWhole_whole _) bA (Memref.isWhole_whole _) bB (Memref.isWhole_whole _) cc0_scratch3 cc0_scratch4 cc0_scratch5)
          (fun _ => iprop(made d L h ∗ scopedBufs (thr d L) ∗ scopedSems0 (thr d L)
            ∗ ∃ W', ⌜∀ p ∈ W', p ∈ W ∨ p.2 = none⌝ ∗ owes (thr d L) O W')) := by
  rw [(K (F := F)).scopedBufs_V hF d (cV L) (jV L), SparseCore.Cfg.scopedSems0_V (Val := Elt F) d (cV L) (jV L), ownSems_tile, ownBufs_tile]
  iintro ⟨#Hlv, -, Hg, ⟨⟨%w, Hw⟩, ⟨%a, Ha⟩, Hb, Hbufs⟩, ⟨HsA, HsB, HsH, Hsems⟩, HO⟩
  ihave HM := ((K (F := F)).mayWaits_none (thr := thr d L) hO) $$ Hlv
  iapply (wp_wand_r frame (wpE (defs₀ (F := F)) 𝒱₀ (thr d L) none) Set.univ
    (Q := fun _ => iprop(made d L h ∗ (∃ w, wPts d L w) ∗ (∃ b, aPts d L b) ∗ (∃ b, bPts d L b)
            ∗ (semVal (thr d L, .dma cc0_scratch3.sem) 0 ∗ semVal (thr d L, .dma cc0_scratch4.sem) 0 ∗ semVal (thr d L, .dma cc0_scratch5.sem) 0)
            ∗ owed d L O W)))
  isplitl [Hg Hw Ha Hb HsA HsB HsH HO HM]
  · iapply (kernel_run d L h f₀ q w a)
    isplitl [Hg]; · iexact Hg
    isplitl [Hw]; · iexact Hw
    isplitl [Ha]; · iexact Ha
    isplitl [Hb]; · iexact Hb
    isplitl [HsA HsB HsH]
    · isplitl [HsA]; · iexact HsA
      isplitl [HsB]; · iexact HsB
      iexact HsH
    isplitl [HO]
    · iexists W
      isplitr
      · ipureintro
        exact fun p hp => Or.inl hp
      iexact HO
    iexact HM
  iintro %_ ⟨Hg, Hw, Ha, Hb, ⟨HsA, HsB, HsH⟩, HO⟩
  isplitl [Hg]; · iexact Hg
  isplitl [Hw Ha Hb Hbufs]
  · isplitl [Hw]; · iexact Hw
    isplitl [Ha]; · iexact Ha
    isplitl [Hb]; · iexact Hb
    iexact Hbufs
  isplitl [HsA HsB HsH Hsems]
  · isplitl [HsA]; · iexact HsA
    isplitl [HsB]; · iexact HsB
    isplitl [HsH]; · iexact HsH
    iexact Hsems
  iexact HO

end Cert.Proof.Hist

end
-- ==== Proof.Launch.lean ====
/-
  The launch: the result and the hash words dealt to the tiles and the result gathered from them, the call's
  obligations, @main, and the run of the whole program with the value it leaves.
-/
module

public import proofs.«01_k».proof.Proof.Tile

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The flat hash words: the argument's elements in row-major order. -/
def hh (d : Dev nD) : Vec F S8192 .i32 := shapeCast S8192 (m (aLoc d) : Vec F S16x128x4 .i32) shapeCasts_S16x128x4_S8192

/-! ## The result and the hash words, dealt -/

theorem split_sets {T : Type} [Fintype T] {ℓ : Loc nD τ sig} {q : PosShare TreeShare} {f : Buf (Elt F) ℓ} (A : Finset (Idx ℓ))
    (C : T → Finset (Idx ℓ)) (hd : ∀ t t', t ≠ t' → Disjoint (C t) (C t')) (hc : Finset.univ.biUnion C = A) :
    (ℓ ↦[A]{q} f : sProp 𝕄) = bigSep (Finset.univ : Finset T) fun t => ℓ ↦[C t]{q} f := by
  rw [← hc, pointsTo_biUnion _ _ fun t _ t' _ h => hd t t' h]

/-- The result's elements SparseCore `c` makes. -/
def coreSet (c : ℕ) : Finset S16x6144x128.Idx := Finset.univ.filter fun x => (x 1).val % 2048 / 1024 = c
/-- Those of its tile `b`. -/
def tileSet (c b : ℕ) : Finset S16x6144x128.Idx := Finset.univ.filter fun x => (x 0).val = b ∧ (x 1).val % 2048 / 1024 = c
/-- Those of its chunk `t`. -/
def chunkSet (c b t : ℕ) : Finset S16x6144x128.Idx := Finset.univ.filter fun x => (x 0).val = b ∧ (x 1).val % 2048 / 128 = 8 * c + t

theorem rows_eq (d : Dev nD) (q : PosShare TreeShare) (h : Vec F S8192 .i32) :
    (hLoc d ↦{q} h : sProp 𝕄) = bigSep (Finset.univ : Finset (Fin 16)) fun b => hLoc d ↦[rowSet b.val]{q} h := by
  refine split_sets (ℓ := hLoc d) (f := h) Finset.univ (fun b : Fin 16 => rowSet b.val) (fun b b' hb => ?_) ?_
  · refine Finset.disjoint_left.mpr fun x hx hx' => hb (Fin.ext ?_)
    have e := (Finset.mem_filter.mp hx).2
    have e' := (Finset.mem_filter.mp hx').2
    exact e.symm.trans e'
  · refine Finset.eq_univ_iff_forall.mpr fun (x : S8192.Idx) => Finset.mem_biUnion.mpr ?_
    have x0 : (x 0).val < 8192 := (x 0).isLt
    exact ⟨⟨(x 0).val / 512, by omega⟩, Finset.mem_univ _, Finset.mem_filter.mpr ⟨Finset.mem_univ _, rfl⟩⟩

theorem cores_eq (d : Dev nD) (f : Vec F S16x6144x128 .f32) :
    (oLoc d ↦{fullShare} f : sProp 𝕄) = bigSep (Finset.univ : Finset (Fin 2)) fun c => oLoc d ↦[coreSet c.val]{fullShare} f := by
  refine split_sets (ℓ := oLoc d) (f := f) Finset.univ (fun c : Fin 2 => coreSet c.val) (fun c c' hc => ?_) ?_
  · refine Finset.disjoint_left.mpr fun x hx hx' => hc (Fin.ext ?_)
    have e := (Finset.mem_filter.mp hx).2
    have e' := (Finset.mem_filter.mp hx').2
    exact e.symm.trans e'
  · refine Finset.eq_univ_iff_forall.mpr fun (x : S16x6144x128.Idx) => Finset.mem_biUnion.mpr ?_
    exact ⟨⟨(x 1).val % 2048 / 1024, by omega⟩, Finset.mem_univ _, Finset.mem_filter.mpr ⟨Finset.mem_univ _, rfl⟩⟩

theorem tiles_eq (d : Dev nD) (c : ℕ) (f : Vec F S16x6144x128 .f32) :
    (oLoc d ↦[coreSet c]{fullShare} f : sProp 𝕄) = bigSep (Finset.univ : Finset (Fin 16)) fun b => oLoc d ↦[tileSet c b.val]{fullShare} f := by
  refine split_sets (ℓ := oLoc d) (f := f) (coreSet c) (fun b : Fin 16 => tileSet c b.val) (fun b b' hb => ?_) ?_
  · refine Finset.disjoint_left.mpr fun x hx hx' => hb (Fin.ext ?_)
    have e := (Finset.mem_filter.mp hx).2.1
    have e' := (Finset.mem_filter.mp hx').2.1
    exact e.symm.trans e'
  · refine Finset.ext fun (x : S16x6144x128.Idx) => ⟨fun hx => ?_, fun hx => ?_⟩
    · obtain ⟨b, -, hb⟩ := Finset.mem_biUnion.mp hx
      exact Finset.mem_filter.mpr ⟨Finset.mem_univ _, (Finset.mem_filter.mp hb).2.2⟩
    · exact Finset.mem_biUnion.mpr ⟨⟨(x 0).val, (x 0).isLt⟩, Finset.mem_univ _,
        Finset.mem_filter.mpr ⟨Finset.mem_univ _, rfl, (Finset.mem_filter.mp hx).2⟩⟩

theorem chunks_eq (d : Dev nD) (c b : ℕ) (f : Vec F S16x6144x128 .f32) :
    (oLoc d ↦[tileSet c b]{fullShare} f : sProp 𝕄) = bigSep (Finset.univ : Finset (Fin 8)) fun t => oLoc d ↦[chunkSet c b t.val]{fullShare} f := by
  refine split_sets (ℓ := oLoc d) (f := f) (tileSet c b) (fun t : Fin 8 => chunkSet c b t.val) (fun t t' ht => ?_) ?_
  · refine Finset.disjoint_left.mpr fun x hx hx' => ht (Fin.ext ?_)
    have e := (Finset.mem_filter.mp hx).2.2
    have e' := (Finset.mem_filter.mp hx').2.2
    have : 8 * c + t.val = 8 * c + t'.val := e.symm.trans e'
    omega
  · refine Finset.ext fun (x : S16x6144x128.Idx) => ⟨fun hx => ?_, fun hx => ?_⟩
    · obtain ⟨t, -, ht⟩ := Finset.mem_biUnion.mp hx
      obtain ⟨e0, e1⟩ : (x 0).val = b ∧ (x 1).val % 2048 / 128 = 8 * c + t.val := (Finset.mem_filter.mp ht).2
      have := t.isLt
      exact Finset.mem_filter.mpr ⟨Finset.mem_univ _, e0, by omega⟩
    · obtain ⟨e0, e1⟩ : (x 0).val = b ∧ (x 1).val % 2048 / 1024 = c := (Finset.mem_filter.mp hx).2
      exact Finset.mem_biUnion.mpr ⟨⟨(x 1).val % 1024 / 128, by omega⟩, Finset.mem_univ _,
        Finset.mem_filter.mpr ⟨Finset.mem_univ _, e0, by show (x 1).val % 2048 / 128 = 8 * c + (x 1).val % 1024 / 128; omega⟩⟩

theorem blocks_eq (d : Dev nD) (L : grid0.Coords) (t : Fin 8) (f : Vec F S16x6144x128 .f32) :
    (oLoc d ↦[chunkSet (L 0).val (L 1).val t.val]{fullShare} f : sProp 𝕄) = block d L f t := by
  have h0 := L0_lt L
  have ht := t.isLt
  refine (split_sets (ℓ := oLoc d) (f := f) (chunkSet (L 0).val (L 1).val t.val)
    (fun k : Fin 3 => outSet (L 1).val k.val (L 0).val t.val) (fun k k' hk => ?_) ?_).trans ?_
  · refine Finset.disjoint_left.mpr fun x hx hx' => hk (Fin.ext ?_)
    have e := (Finset.mem_filter.mp hx).2.2
    have e' := (Finset.mem_filter.mp hx').2.2
    have : 16 * k.val + 8 * (L 0).val + t.val = 16 * k'.val + 8 * (L 0).val + t.val := e.symm.trans e'
    omega
  · refine Finset.ext fun (x : S16x6144x128.Idx) => ⟨fun hx => ?_, fun hx => ?_⟩
    · obtain ⟨k, -, hk⟩ := Finset.mem_biUnion.mp hx
      obtain ⟨e0, e1⟩ : (x 0).val = (L 1).val ∧ (x 1).val / 128 = 16 * k.val + 8 * (L 0).val + t.val := (Finset.mem_filter.mp hk).2
      exact Finset.mem_filter.mpr ⟨Finset.mem_univ _, e0, by show (x 1).val % 2048 / 128 = 8 * (L 0).val + t.val; omega⟩
    · obtain ⟨e0, e1⟩ : (x 0).val = (L 1).val ∧ (x 1).val % 2048 / 128 = 8 * (L 0).val + t.val := (Finset.mem_filter.mp hx).2
      have x1 : (x 1).val < 6144 := (x 1).isLt
      exact Finset.mem_biUnion.mpr ⟨⟨(x 1).val / 2048, by omega⟩, Finset.mem_univ _,
        Finset.mem_filter.mpr ⟨Finset.mem_univ _, e0,
          by show (x 1).val / 128 = 16 * ((x 1).val / 2048) + 8 * (L 0).val + t.val; omega⟩⟩
  · unfold block
    refine bigSep_congr fun k _ => ?_
    unfold part
    rw [set_outM]

/-- A core's share of the result is its tiles' blocks. -/
theorem core_blocks (d : Dev nD) (c : Fin 2) (f : Vec F S16x6144x128 .f32) :
    (oLoc d ↦[coreSet c.val]{fullShare} f : sProp 𝕄)
      = bigSep (Finset.univ : Finset (Fin 16)) fun b => bigSep (Finset.univ : Finset (Fin 8)) (block d (gp c b) f) := by
  rw [tiles_eq]
  refine bigSep_congr fun b _ => ?_
  rw [chunks_eq]
  exact bigSep_congr fun t _ => blocks_eq d (gp c b) t f

/-! ## The call's payloads -/

theorem nCore_zero : (K (F := F)).nCore 0 = 2 := rfl
theorem nSub_zero : (K (F := F)).nSub 0 = 16 := rfl

/-- A core's share of the hash words. -/
abbrev tok (c : Fin 2) : PosShare TreeShare := Transfers.shareTok fullShare 2 c

/-- What core `c` is started with. -/
abbrev stPay (d : Dev nD) (c : Fin 2) : sProp 𝕄 :=
  iprop((hLoc d ↦{tok c} hh m d) ∗ (oLoc d ↦[coreSet c.val]{fullShare} (m (oLoc d) : Vec F S16x6144x128 .f32)))
/-- What core `c` hands back. -/
abbrev dnPay (d : Dev nD) (c : Fin 2) : sProp 𝕄 := oLoc d ↦[coreSet c.val]{fullShare} outOf (hh m d)

def P : (K (F := F)).Pay (nD := nD) (Val := Elt F) (Name := ℕ) (U := UU) where
  st := fun q d c => match q with | 0 => stPay m d (Fin.cast nCore_zero c)
  dn := fun q d c => match q with | 0 => dnPay m d (Fin.cast nCore_zero c)
  go := fun q d c i => match q with
    | 0 => given d (gp (Fin.cast nCore_zero c) (Fin.cast nSub_zero i)) (hh m d) (m (oLoc d)) (tok (Fin.cast nCore_zero c))
  td := fun q d c i => match q with | 0 => made d (gp (Fin.cast nCore_zero c) (Fin.cast nSub_zero i)) (hh m d)
  x := fun _ _ => iprop(emp)

instance block_storable (d : Dev nD) (L : grid0.Coords) (f : Vec F S16x6144x128 .f32) (t : Fin 8) :
    BI.Storable (upEmb : UEmb _ 𝕄) (block d L f t) := by
  unfold block; infer_instance

instance P_storable : (P (F := F) m).IsStorable where
  st q d c := match q with | 0 => (inferInstance : BI.Storable (upEmb : UEmb _ 𝕄) (stPay m d (Fin.cast nCore_zero c)))
  dn q d c := match q with | 0 => (inferInstance : BI.Storable (upEmb : UEmb _ 𝕄) (dnPay m d (Fin.cast nCore_zero c)))
  go q d c i := match q with
    | 0 => (inferInstance : BI.Storable (upEmb : UEmb _ 𝕄)
        (given d (gp (Fin.cast nCore_zero c) (Fin.cast nSub_zero i)) (hh m d) (m (oLoc d)) (tok (Fin.cast nCore_zero c))))
  td q d c i := match q with
    | 0 => (inferInstance : BI.Storable (upEmb : UEmb _ 𝕄) (made d (gp (Fin.cast nCore_zero c) (Fin.cast nSub_zero i)) (hh m d)))

/-! ## The call's obligations -/

theorem defs₀_tile (c : Fin τ.nSC) (s : Fin τ.nSub) :
    defs₀ (F := F) (.scVector c s) 0 ()
      = SparseCore.onTile hcore0 hsub0 (fun c s => cc0__sc_kernel (F := F) (gp c s)
          hV (Memref.isWhole_whole _) oV (Memref.isWhole_whole _) wV (Memref.isWhole_whole _) bA (Memref.isWhole_whole _) bB (Memref.isWhole_whole _) cc0_scratch3 cc0_scratch4 cc0_scratch5) ⟨⟩ c s := rfl

theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
/-- Every tile's run, from what it is given to what it makes. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact (tile_run d (gp ⟨_, hc.1⟩ ⟨_, hc.2⟩) (hh m d) (m (oLoc d)) (tok (Fin.cast nCore_zero c)) hF O W hO).trans
    (wp_mono frame _ _ fun _ => post_weaken)

theorem tasks_eq (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's payload is its tiles', and what its tiles make is its own. -/
theorem vecSplit : (K (F := F)).VecSplit' (P m) 0 := by
  intro d c
  show stPay m d (Fin.cast nCore_zero c) ⊢ |={Set.univ}=> iprop(
      (bigSep Finset.univ fun i : Fin ((K (F := F)).nSub 0) =>
        given d (gp (Fin.cast nCore_zero c) (Fin.cast nSub_zero i)) (hh m d) (m (oLoc d)) (tok (Fin.cast nCore_zero c)))
      ∗ ((bigSep Finset.univ fun i : Fin ((K (F := F)).nSub 0) => made d (gp (Fin.cast nCore_zero c) (Fin.cast nSub_zero i)) (hh m d))
          -∗ dnPay m d (Fin.cast nCore_zero c)))
  generalize Fin.cast nCore_zero c = c
  rw [tasks_eq (F := F) (fun b => given d (gp c b) (hh m d) (m (oLoc d)) (tok c)),
    tasks_eq (F := F) (fun b => made d (gp c b) (hh m d)), bigSep_sep']
  unfold stPay dnPay made
  rw [rows_eq, core_blocks, core_blocks]
  iintro H; imodintro
  isplitl [H]; · iexact H
  iintro H
  iexact H

/-! ## The launch element -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## @main -/

abbrev a' : DevRef τ sig := Proc.devRef .tc (main_arg0 : Ref sig .tc)
abbrev h' : DevRef τ sig := Proc.devRef .tc (main_v0 : Ref sig .tc)
abbrev o' : DevRef τ sig := Proc.devRef .tc (main_v1 : Ref sig .tc)
/-- @main's first line: the flat hash words. -/
abbrev opFlat : HloOp τ sig (Elt F) := StableHlo.reshape main_arg0 main_v0 (rfl : (.i32 : EltTy) = .i32) shapeCasts_S16x128x4_S8192
/-- The TensorCore's arrays. -/
abbrev S3 : Finset (DevRef τ sig) := {a', h', o'}

theorem held_S3 (d : Dev nD) (W : Valuation τ sig (Elt F)) :
    (held (T d) S3 W : sProp 𝕄) = iprop((aLoc d ↦{fullShare} W a') ∗ (hLoc d ↦{fullShare} W h') ∗ oLoc d ↦{fullShare} W o') := by
  unfold held S3
  rw [SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (hLoc d ↦{fullShare} W main_v0) ∗ oLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = held (T d) S3 (V0 m d) := by
  rw [unscopedBufs_eq, held_S3]; rfl

/-- After the first line: the argument and the result as they were, the flat words the argument's. -/
theorem held_flat (d : Dev nD) :
    (held (T d) S3 ((opFlat (F := F)).result (V0 m d)) : sProp 𝕄)
      = iprop((aLoc d ↦{fullShare} m (aLoc d)) ∗ (hLoc d ↦{fullShare} hh m d) ∗ oLoc d ↦{fullShare} m (oLoc d)) := by
  rw [held_S3]
  have e1 : (opFlat (F := F)).result (V0 m d) a' = m (aLoc d) :=
    HloOp.result_of_not_mem _ _ (show a' ∉ ({h'} : Finset (DevRef τ sig)) by decide)
  have e2 : (opFlat (F := F)).result (V0 m d) h' = hh m d := StableHlo.reshape_result _ _ _ _ _ _ _
  have e3 : (opFlat (F := F)).result (V0 m d) o' = m (oLoc d) :=
    HloOp.result_of_not_mem _ _ (show o' ∉ ({h'} : Finset (DevRef τ sig)) by decide)
  rw [e1, e2, e3]

theorem hFlat : (opFlat (F := F)).bufs ⊆ S3 := show ({a', h'} : Finset (DevRef τ sig)) ⊆ S3 by decide

theorem st0_eq (d : Dev nD) :
    (bigSep Finset.univ fun c : Fin ((K (F := F)).nCore 0) => (P m).st 0 d c)
      = iprop((bigSep Finset.univ fun c : Fin 2 => hLoc d ↦{tok c} hh m d) ∗ oLoc d ↦{fullShare} m (oLoc d)) := by
  show (bigSep (Finset.univ : Finset (Fin 2)) fun c => stPay m d c) = _
  rw [bigSep_sep', cores_eq]
theorem dn0_eq (d : Dev nD) :
    (bigSep Finset.univ fun c : Fin ((K (F := F)).nCore 0) => (P m).dn 0 d c) = (oLoc d ↦{fullShare} outOf (hh m d) : sProp 𝕄) := by
  show (bigSep (Finset.univ : Finset (Fin 2)) fun c => dnPay m d c) = _
  rw [cores_eq]

/-- What @main leaves: the argument as it was, the result at its value. -/
abbrev FIN (d : Dev nD) : sProp 𝕄 := iprop((aLoc d ↦{fullShare} m (aLoc d)) ∗ oLoc d ↦{fullShare} outOf (hh m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S3) hFlat (V := V0 m d)) $$ [Hb Hheld]
  · isplitl [Hb]; · iexact Hb
    iexact Hheld
  iintro ⟨Hb, Hheld⟩
  ihave Hh := (Entails.of_eq (held_flat (F := F) m d)) $$ Hheld
  icases Hh with ⟨Ha, Hh, Ho⟩
  ihave Hh := (Transfers.pointsTo_toks_split (n := 2)) $$ Hh
  icases Hh with ⟨-, Hh⟩
  rw [wp_ret]; imodintro
  iapply ((K (F := F)).wp_run (D (F := F)) 𝒱 (EH := EH) (P := P m) κ d 0) $$ [Hst Ha Hh Ho Hb Hts]
  isplitr; · iexact Hctx
  isplitl [Hst]; · iexact Hst
  isplitl [Hh Ho]
  · rw [st0_eq]
    isplitl [Hh]; · iexact Hh
    iexact Ho
  iintro ⟨Hst, Hdn⟩
  ihave Ho := (Entails.of_eq (dn0_eq m d)) $$ Hdn
  imodintro
  isplitl [Hst]; · iexact Hst
  isplitr [Hb Hts]
  · isplitl [Ha]; · iexact Ha
    iexact Ho
  isplitl [Hb] <;> iassumption

def fq (d : Dev nD) (s' : Phys nD τ sig (Elt F)) : Prop :=
  s'.mem.mem (aLoc d) = m (aLoc d) ∧ s'.mem.mem (oLoc d) = outOf (hh m d)

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := oLoc d) (I := Finset.univ) (q := fullShare) (f := outOf (hh m d))) $$ [HSI Ho]
  · isplitl [HSI] <;> iassumption
  icases H with %h2
  ipureintro; exact ⟨funext fun i => h1 i (Finset.mem_univ i), funext fun i => h2 i (Finset.mem_univ i)⟩

/-! ## The run -/

def QC : PUnit × MemSt nD τ sig (Elt F) → Prop := fun r =>
  (∀ c : Dev nD, r.2.mem (aLoc c) = m (aLoc c) ∧ r.2.mem (oLoc c) = outOf (hh m c)) ∧ r.2.sem = fun _ => 0

/-- Every run of the program ends, with the argument unchanged, the result at its value and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Hist

end
-- ==== Proof.Counts.lean ====
/-
  The result's value over the extended reals: an element of a count buffer is the number of hash words of the tile's
  batch row that lie in the element's bucket, one sequence position to the left of it (plane 0), at it (plane 1) or one
  to the right of it (plane 2). Each pass adds a chunk's counts; the pass of two chunks back takes the same numbers off.
-/
module

public import proofs.«01_k».proof.Proof.Base
public import Idealize.ShloMosaic.PureOps.Ideal.Laws
public import Idealize.ShloMosaic.Lib.IdealHost

@[expose] public section

noncomputable section

namespace Cert.Proof.Hist

open Cert.KernelIdeal Cert.KernelIdeal.Gen
open Idealize.ShloMosaic

/-! ## Words -/

/-- The bucket of a hash word: its low eleven bits. -/
def bucket (w : BitVec 32) : ℕ := (w &&& 2047#32).toNat

theorem bucket_lt (w : BitVec 32) : bucket w < 2048 := by
  unfold bucket; rw [BitVec.toNat_and]; exact lt_of_le_of_lt Nat.and_le_right (by decide)

theorem and127_mod (w : BitVec 32) : (w &&& 127#32).toNat = w.toNat % 128 := by
  rw [BitVec.toNat_and]; exact Nat.and_two_pow_sub_one_eq_mod w.toNat 7

theorem bucket_mod (w : BitVec 32) : bucket w = w.toNat % 2048 := by
  unfold bucket; rw [BitVec.toNat_and]; exact Nat.and_two_pow_sub_one_eq_mod w.toNat 11

theorem ofBool_one (p : Bool) : BitVec.ofBool p = 1 ↔ p = true := by cases p <;> decide
theorem and_one : ∀ a b : BitVec 1, (a &&& b = 1 ↔ a = 1 ∧ b = 1) := by decide

/-- A lane is on exactly when the pass is and its word's bucket lies in the pass's chunk. -/
theorem on_iff (M : ℕ) (hM : M < 16) (en : BitVec 1) (h : IVec S16 32) (x : S16.Idx) :
    k0_pay4 (F := Ideal) (BitVec.ofNat 32 (128 * M)) en h x = 1 ↔ en = 1 ∧ bucket (h x) / 128 = M := by
  have hb := bucket_lt (h x)
  have e : k0_pay4 (F := Ideal) (BitVec.ofNat 32 (128 * M)) en h x
      = (BitVec.ofBool ((0#32).sle ((h x &&& 2047#32) - BitVec.ofNat 32 (128 * M)))
          &&& BitVec.ofBool (((h x &&& 2047#32) - BitVec.ofNat 32 (128 * M)).slt 128#32)) &&& en := rfl
  rw [e, and_one, and_one, ofBool_one, ofBool_one]
  have hn : (h x &&& 2047#32).toNat = bucket (h x) := rfl
  have hsub : ((h x &&& 2047#32) - BitVec.ofNat 32 (128 * M)).toInt = (bucket (h x) : ℤ) - 128 * M := by
    have h2 : ((h x &&& 2047#32) - BitVec.ofNat 32 (128 * M)).toNat = (2 ^ 32 - 128 * M + bucket (h x)) % 2 ^ 32 := by
      rw [BitVec.toNat_sub, hn, BitVec.toNat_ofNat, Nat.mod_eq_of_lt (a := 128 * M) (by omega)]
    rw [BitVec.toInt_eq_toNat_cond, h2]
    split <;> omega
  rw [BitVec.sle_iff_toInt_le, BitVec.slt_iff_toInt_lt, hsub]
  have e0 : (0#32).toInt = 0 := by decide
  have e1 : (128#32).toInt = 128 := by decide
  rw [e0, e1]
  constructor
  · rintro ⟨⟨h1, h2⟩, h3⟩; exact ⟨h3, by omega⟩
  · rintro ⟨h3, h1⟩; exact ⟨⟨by omega, by omega⟩, h3⟩

/-- Such a lane's row is its bucket's place in the chunk. -/
theorem row_val (M : ℕ) (hM : M < 16) (h : IVec S16 32) (x : S16.Idx) :
    (k0_pay5 (F := Ideal) (BitVec.ofNat 32 (128 * M)) h x).toNat = bucket (h x) % 128 := by
  have hb := bucket_lt (h x)
  have e : k0_pay5 (F := Ideal) (BitVec.ofNat 32 (128 * M)) h x
      = ((h x &&& 2047#32) - BitVec.ofNat 32 (128 * M)) &&& 127#32 := rfl
  have hn : (h x &&& 2047#32).toNat = bucket (h x) := rfl
  rw [e, and127_mod, BitVec.toNat_sub, hn, BitVec.toNat_ofNat, Nat.mod_eq_of_lt (a := 128 * M) (by omega)]
  omega

theorem slt_small (p : BitVec 32) (hp : p.toNat < 128) : (BitVec.ofBool (p.slt 127#32) = 1) ↔ p.toNat < 127 := by
  rw [ofBool_one, BitVec.slt_iff_toInt_lt, BitVec.toInt_eq_toNat_of_lt (by omega)]
  have e1 : (127#32).toInt = 127 := by decide
  rw [e1]; omega
theorem sgt_small (p : BitVec 32) (hp : p.toNat < 128) : (BitVec.ofBool ((0#32).slt p) = 1) ↔ 0 < p.toNat := by
  rw [ofBool_one, BitVec.slt_iff_toInt_lt, BitVec.toInt_eq_toNat_of_lt (x := p) (by omega)]
  have e1 : (0#32).toInt = 0 := by decide
  rw [e1]; omega

theorem right_val (p : IVec S16 32) (x : S16.Idx) (hp : (p x).toNat < 128) : (k0_pay6 p x).toNat = ((p x).toNat + 1) % 128 := by
  have e : k0_pay6 p x = (p x + 1#32) &&& 127#32 := rfl
  have e1 : (1#32).toNat = 1 := rfl
  rw [e, and127_mod, BitVec.toNat_add, e1]; omega
theorem left_val (p : IVec S16 32) (x : S16.Idx) (hp : (p x).toNat < 128) : (k0_pay10 p x).toNat = ((p x).toNat + 127) % 128 := by
  have e : k0_pay10 p x = (p x - 1#32) &&& 127#32 := rfl
  have e1 : (1#32).toNat = 1 := rfl
  rw [e, and127_mod, BitVec.toNat_sub, e1]; omega

/-! ## One indexed addition at one element -/

/-- Steps that each add `w` at an element when a condition of theirs holds add `w` times the number of those. -/
theorem foldl_at {s : Shape} {I : Type} (step : Vec Ideal s .f32 → I → Vec Ideal s .f32) (e : s.Idx) (w : ℝ) (c : I → Prop)
    [DecidablePred c]
    (hs : ∀ (g : Vec Ideal s .f32) (k : I) (r : ℝ), g e = (r : EReal) → step g k e = ((r + w * (if c k then 1 else 0 : ℝ) : ℝ) : EReal))
    (l : List I) : ∀ (g : Vec Ideal s .f32) (r : ℝ), g e = (r : EReal) →
      l.foldl step g e = ((r + w * (l.map fun k => (if c k then 1 else 0 : ℝ)).sum : ℝ) : EReal) := by
  induction l with
  | nil => intro g r hg; simpa using hg
  | cons k l ih =>
    intro g r hg
    rw [List.foldl_cons, List.map_cons, List.sum_cons, ih _ _ (hs g k r hg), mul_add, add_assoc]

/-- An indexed addition whose lanes all add `w`, at one element: `w` times the number of set lanes that name it. -/
theorem store_at {s : Shape} {d : Fin 1 → ℕ} (b : Vec Ideal s .f32) (idxs : Fin s.rank → IVec ⟨1, d⟩ 32) (v : Vec Ideal ⟨1, d⟩ .f32)
    (mask : IVec ⟨1, d⟩ 1) (h : ∀ a x, (idxs a x).toNat < s.size a) (e : s.Idx) (r w : ℝ) (hb : b e = (r : EReal))
    (hv : ∀ x, v x = (w : EReal)) :
    storeIdx b idxs v mask true h e
      = ((r + w * ∑ k : Fin (d 0), (if mask (Shape.ofLane k) = 1 ∧ ∀ a, (e a).val = (idxs a (Shape.ofLane k)).toNat then 1 else 0 : ℝ) : ℝ) : EReal) := by
  unfold storeIdx
  rw [Fin.sum_univ_def]
  refine foldl_at _ e w (fun k => mask (Shape.ofLane k) = 1 ∧ ∀ a, (e a).val = (idxs a (Shape.ofLane k)).toNat)
    (fun g k r hg => ?_) (List.finRange (d 0)) b r hb
  dsimp only
  by_cases h1 : mask (Shape.ofLane k) = 1
  · rw [if_pos h1]
    by_cases h2 : ∀ a, (e a).val = (idxs a (Shape.ofLane k)).toNat
    · have hi : idxAt idxs h (Shape.ofLane k) = e := funext fun a => Fin.ext (h2 a).symm
      rw [hi, if_pos fun _ => rfl, if_pos rfl, if_pos (show _ ∧ _ from ⟨h1, h2⟩)]
      show g e + v (Shape.ofLane k) = _
      rw [hg, hv, mul_one, EReal.coe_add]
    · rw [if_neg (fun hh : _ ∧ _ => h2 hh.2)]
      refine (if_neg h2).trans ?_
      rw [hg, mul_zero, add_zero]
  · rw [if_neg h1, if_neg (fun hh : _ ∧ _ => h1 hh.1), hg, mul_zero, add_zero]

/-- An indexed addition with no lane set changes nothing. -/
theorem store_off {s : Shape} {d : Fin 1 → ℕ} (b : Vec Ideal s .f32) (idxs : Fin s.rank → IVec ⟨1, d⟩ 32) (v : Vec Ideal ⟨1, d⟩ .f32)
    (mask : IVec ⟨1, d⟩ 1) (h : ∀ a x, (idxs a x).toNat < s.size a) (hm : ∀ x, mask x ≠ 1) : storeIdx b idxs v mask true h = b := by
  unfold storeIdx
  generalize List.finRange (d 0) = l
  induction l with
  | nil => rfl
  | cons k l ih => rw [List.foldl_cons]; dsimp only; rw [if_neg (hm _)]; exact ih

/-! ## One lane group's three additions -/

/-- The bucket of hash word `i` of a tile. -/
def bkt (hv : Vec Ideal S512 .i32) (i : ℕ) : ℕ := if h : i < 512 then bucket (hv fun | 0 => ⟨i, h⟩) else 0

theorem words_bkt (hv : Vec Ideal S512 .i32) (n : Fin k0_t4_loop.trips) (j : Fin k0_t5_loop.trips) (x : S16.Idx) :
    bucket (words hv n j x) = bkt hv (4 * (16 * j.val + (x 0).val) + n.val) := by
  have hw := word_apply n j x
  have hlt : 4 * (16 * j.val + (x 0).val) + n.val < 512 := hw ▸ word_inb n j 0 x
  unfold bkt; rw [dif_pos hlt]
  refine congrArg bucket (congrArg hv ?_)
  funext a
  match a with
  | 0 => exact Fin.ext hw

/-- Sequence position `q` of bucket plane `n` counts at plane `p`, row `row`, position `s` of chunk `M`. -/
def hit (hv : Vec Ideal S512 .i32) (M n p row s q : ℕ) : Prop := q + 1 = s + p ∧ bkt hv (4 * q + n) = 128 * M + row

instance (hv : Vec Ideal S512 .i32) (M n p row s q : ℕ) : Decidable (hit hv M n p row s q) := by unfold hit; infer_instance

/-- One lane group at one element: `w` times the number of its positions that count there, if the pass is on. -/
theorem step3_at (hv : Vec Ideal S512 .i32) (M : ℕ) (hM : M < 16) (en : BitVec 1) (v : Vec Ideal S16 .f32) (n : Fin k0_t4_loop.trips)
    (j : Fin k0_t5_loop.trips) (b : Vec Ideal S3x128x128 .f32) (e : S3x128x128.Idx) (r w : ℝ) (hb : b e = (r : EReal))
    (hw : ∀ x, v x = (w : EReal)) :
    step3 hv (BitVec.ofNat 32 (128 * M)) en v n j b e
      = ((r + w * ∑ k ∈ Finset.range 16, (if en = 1 ∧ hit hv M n.val (e 0).val (e 1).val (e 2).val (16 * j.val + k) then 1 else 0 : ℝ) : ℝ) : EReal) := by
  have h0 : (e 0).val < 3 := (e 0).isLt
  have h1 : (e 1).val < 128 := (e 1).isLt
  have h2 : (e 2).val < 128 := (e 2).isLt
  unfold step3
  rw [store_at _ _ _ _ _ e _ w (store_at _ _ _ _ _ e _ w (store_at b _ v _ _ e r w hb hw) hw) hw]
  rw [Finset.sum_range fun k => (if en = 1 ∧ hit hv M n.val (e 0).val (e 1).val (e 2).val (16 * j.val + k) then 1 else 0 : ℝ)]
  rw [add_assoc, add_assoc, ← mul_add, ← mul_add, ← Finset.sum_add_distrib, ← Finset.sum_add_distrib]
  refine congrArg (fun z : ℝ => ((r + w * z : ℝ) : EReal)) (Finset.sum_congr rfl fun k _ => ?_)
  have hx : ((Shape.ofLane k : S16.Idx) 0).val = k.val := rfl
  generalize (Shape.ofLane k : S16.Idx) = x at hx ⊢
  have hp := pos_apply j x
  rw [hx] at hp
  have hpl := pos_lt j x
  have hbk := words_bkt hv n j x
  rw [hx] at hbk
  have hon := on_iff M hM en (words hv n j) x
  have hrow := row_val M hM (words hv n j) x
  have hr := right_val (pos j) x hpl
  have hl := left_val (pos j) x hpl
  have hm7 : k0_pay7 (F := Ideal) (BitVec.ofNat 32 (128 * M)) en (pos j) (words hv n j) x = 1
      ↔ (en = 1 ∧ bucket (words hv n j x) / 128 = M) ∧ (pos j x).toNat < 127 := by
    rw [← hon, ← slt_small _ hpl, ← and_one]; exact Iff.rfl
  have hm11 : k0_pay11 (F := Ideal) (BitVec.ofNat 32 (128 * M)) en (pos j) (words hv n j) x = 1
      ↔ (en = 1 ∧ bucket (words hv n j x) / 128 = M) ∧ 0 < (pos j x).toNat := by
    rw [← hon, ← sgt_small _ hpl, ← and_one]; exact Iff.rfl
  have hb2 := bucket_lt (words hv n j x)
  generalize bucket (words hv n j x) = B at *
  have fa : ∀ i0 i1 i2 : IVec S16 32, (∀ a, (e a).val = ((![i0, i1, i2] : Fin 3 → IVec S16 32) a x).toNat)
      ↔ (e 0).val = (i0 x).toNat ∧ (e 1).val = (i1 x).toNat ∧ (e 2).val = (i2 x).toNat := by
    intro i0 i1 i2
    constructor
    · intro h; exact ⟨h 0, h 1, h 2⟩
    · intro h a
      match a with
      | 0 => exact h.1
      | 1 => exact h.2.1
      | 2 => exact h.2.2
  have c0 : (k0_pay7 (F := Ideal) (BitVec.ofNat 32 (128 * M)) en (pos j) (words hv n j) x = 1
        ∧ ∀ a, (e a).val = ((![k0_pay28, k0_pay5 (F := Ideal) (BitVec.ofNat 32 (128 * M)) (words hv n j), k0_pay6 (pos j)] : Fin 3 → IVec S16 32) a x).toNat)
      ↔ (e 0).val = 0 ∧ (en = 1 ∧ hit hv M n.val (e 0).val (e 1).val (e 2).val (16 * j.val + k.val)) := by
    have z : (k0_pay28 x).toNat = 0 := rfl
    rw [fa, hm7, hrow, hr, z, hp]; unfold hit; rw [← hbk]
    constructor
    · rintro ⟨⟨⟨h3, h4⟩, h5⟩, h6, h7, h8⟩; exact ⟨h6, h3, by omega, by omega⟩
    · rintro ⟨h6, h3, h4, h5⟩; exact ⟨⟨⟨h3, by omega⟩, by omega⟩, h6, by omega, by omega⟩
  have c1 : (k0_pay4 (F := Ideal) (BitVec.ofNat 32 (128 * M)) en (words hv n j) x = 1
        ∧ ∀ a, (e a).val = ((![k0_pay8 k0_pay28, k0_pay5 (F := Ideal) (BitVec.ofNat 32 (128 * M)) (words hv n j), pos j] : Fin 3 → IVec S16 32) a x).toNat)
      ↔ (e 0).val = 1 ∧ (en = 1 ∧ hit hv M n.val (e 0).val (e 1).val (e 2).val (16 * j.val + k.val)) := by
    have z : (k0_pay8 k0_pay28 x).toNat = 1 := rfl
    rw [fa, hon, hrow, z, hp]; unfold hit; rw [← hbk]
    constructor
    · rintro ⟨⟨h3, h4⟩, h6, h7, h8⟩; exact ⟨h6, h3, by omega, by omega⟩
    · rintro ⟨h6, h3, h4, h5⟩; exact ⟨⟨h3, by omega⟩, h6, by omega, by omega⟩
  have c2 : (k0_pay11 (F := Ideal) (BitVec.ofNat 32 (128 * M)) en (pos j) (words hv n j) x = 1
        ∧ ∀ a, (e a).val = ((![k0_pay9 k0_pay28, k0_pay5 (F := Ideal) (BitVec.ofNat 32 (128 * M)) (words hv n j), k0_pay10 (pos j)] : Fin 3 → IVec S16 32) a x).toNat)
      ↔ (e 0).val = 2 ∧ (en = 1 ∧ hit hv M n.val (e 0).val (e 1).val (e 2).val (16 * j.val + k.val)) := by
    have z : (k0_pay9 k0_pay28 x).toNat = 2 := rfl
    rw [fa, hm11, hrow, hl, z, hp]; unfold hit; rw [← hbk]
    constructor
    · rintro ⟨⟨⟨h3, h4⟩, h5⟩, h6, h7, h8⟩; exact ⟨h6, h3, by omega, by omega⟩
    · rintro ⟨h6, h3, h4, h5⟩; exact ⟨⟨⟨h3, by omega⟩, by omega⟩, h6, by omega, by omega⟩
  simp only [c0, c1, c2]
  by_cases hQ : en = 1 ∧ hit hv M n.val (e 0).val (e 1).val (e 2).val (16 * j.val + k.val)
  · rw [if_pos hQ]
    have : (e 0).val = 0 ∨ (e 0).val = 1 ∨ (e 0).val = 2 := by omega
    rcases this with h | h | h
    · rw [if_pos ⟨h, hQ⟩, if_neg fun z => by have := z.1; omega, if_neg fun z => by have := z.1; omega]; norm_num
    · rw [if_neg fun z => by have := z.1; omega, if_pos ⟨h, hQ⟩, if_neg fun z => by have := z.1; omega]; norm_num
    · rw [if_neg fun z => by have := z.1; omega, if_neg fun z => by have := z.1; omega, if_pos ⟨h, hQ⟩]; norm_num
  · rw [if_neg hQ, if_neg fun z => hQ z.2, if_neg fun z => hQ z.2, if_neg fun z => hQ z.2]; norm_num

/-! ## The loops -/

/-- Steps that each add a number of their own at an element add the sum of those numbers. -/
theorem iter_at {n : ℕ} (f : Fin n → Vec Ideal S3x128x128 .f32 → Vec Ideal S3x128x128 .f32) (e : S3x128x128.Idx) (g : ℕ → ℝ)
    (hf : ∀ (i : Fin n) (b : Vec Ideal S3x128x128 .f32) (r : ℝ), b e = (r : EReal) → f i b e = ((r + g i.val : ℝ) : EReal)) :
    ∀ k, k ≤ n → ∀ (b : Vec Ideal S3x128x128 .f32) (r : ℝ), b e = (r : EReal) →
      iter f k b e = ((r + ∑ i ∈ Finset.range k, g i : ℝ) : EReal) := by
  intro k
  induction k with
  | zero => intro _ b r hb; simpa [iter_zero] using hb
  | succ k ih =>
    intro hk b r hb
    rw [show iter f (k + 1) b = f ⟨k, hk⟩ (iter f k b) from iter_succ f ⟨k, hk⟩ b,
      hf ⟨k, hk⟩ _ _ (ih (by omega) b r hb), Finset.sum_range_succ, add_assoc]

theorem trips5 : k0_t5_loop.trips = 8 := by decide
theorem trips4 : k0_t4_loop.trips = 4 := by decide
theorem trips3 : k0_t3_loop.trips = 2 := by decide
theorem trips2_eq : k0_t2_loop.trips = 8 := by decide

/-- Groups of sixteen are the whole. -/
theorem sum_groups (g : ℕ → ℝ) (m : ℕ) : ∑ j ∈ Finset.range m, ∑ k ∈ Finset.range 16, g (16 * j + k) = ∑ q ∈ Finset.range (16 * m), g q := by
  induction m with
  | zero => simp
  | succ m ih => rw [Finset.sum_range_succ, ih, show 16 * (m + 1) = 16 * m + 16 by ring, Finset.sum_range_add]

/-- The count at plane `p`, row `row`, position `s` of chunk `M`. -/
def count (hv : Vec Ideal S512 .i32) (M p row s : ℕ) : ℝ :=
  ∑ n ∈ Finset.range 4, ∑ q ∈ Finset.range 128, (if hit hv M n p row s q then 1 else 0 : ℝ)

/-- A pass at one element: `w` times the element's count of the pass's chunk, if the pass is on. -/
theorem passN_at (hv : Vec Ideal S512 .i32) (M : ℕ) (hM : M < 16) (en : BitVec 1) (v : Vec Ideal S16 .f32)
    (b : Vec Ideal S3x128x128 .f32) (e : S3x128x128.Idx) (r w : ℝ) (hb : b e = (r : EReal)) (hw : ∀ x, v x = (w : EReal)) :
    passN hv (BitVec.ofNat 32 (128 * M)) en v k0_t4_loop.trips b e
      = ((r + if en = 1 then w * count hv M (e 0).val (e 1).val (e 2).val else 0 : ℝ) : EReal) := by
  unfold passN
  rw [iter_at _ e (fun n => ∑ j ∈ Finset.range 8, w * ∑ k ∈ Finset.range 16,
      (if en = 1 ∧ hit hv M n (e 0).val (e 1).val (e 2).val (16 * j + k) then 1 else 0 : ℝ)) ?_ _ le_rfl b r hb, trips4]
  · refine congrArg (fun z : ℝ => ((r + z : ℝ) : EReal)) ?_
    unfold count
    simp only [← Finset.mul_sum]
    rw [Finset.sum_congr rfl fun n _ => sum_groups (fun q => (if en = 1 ∧ hit hv M n (e 0).val (e 1).val (e 2).val q then 1 else 0 : ℝ)) 8]
    by_cases h : en = 1
    · have : ∀ n q, (if en = 1 ∧ hit hv M n (e 0).val (e 1).val (e 2).val q then 1 else 0 : ℝ)
          = if hit hv M n (e 0).val (e 1).val (e 2).val q then 1 else 0 := fun n q => by simp only [eq_true h, true_and]
      rw [if_pos h]; simp only [this]
    · have : ∀ n q, (if en = 1 ∧ hit hv M n (e 0).val (e 1).val (e 2).val q then 1 else 0 : ℝ) = 0 := fun n q => if_neg fun z => h z.1
      rw [if_neg h]; simp only [this, Finset.sum_const_zero, mul_zero]
  · intro n b r hb
    unfold passJ
    rw [iter_at _ e (fun j => w * ∑ k ∈ Finset.range 16,
      (if en = 1 ∧ hit hv M n.val (e 0).val (e 1).val (e 2).val (16 * j + k) then 1 else 0 : ℝ)) ?_ _ le_rfl b r hb, trips5]
    intro j b r hb
    exact step3_at hv M hM en v n j b e r w hb hw

/-- A pass that is off changes nothing, wherever it would have worked. -/
theorem off_at (hv : Vec Ideal S512 .i32) (mm : BitVec 32) (v : Vec Ideal S16 .f32) (b : Vec Ideal S3x128x128 .f32) :
    passN hv mm 0#1 v k0_t4_loop.trips b = b := by
  have off : ∀ a : BitVec 1, a &&& 0#1 ≠ 1 := by decide
  have off' : ∀ a b : BitVec 1, (a &&& 0#1) &&& b ≠ 1 := by decide
  have i : ∀ {n : ℕ} (f : Fin n → Vec Ideal S3x128x128 .f32 → Vec Ideal S3x128x128 .f32), (∀ i b, f i b = b) → ∀ k b, iter f k b = b := by
    intro n f hf k
    induction k with
    | zero => intro b; rfl
    | succ k ih =>
      intro b
      show (if h : k < n then f ⟨k, h⟩ (iter f k b) else iter f k b) = b
      split
      · rw [hf, ih]
      · exact ih b
  refine i _ (fun n b => ?_) _ _
  refine i _ (fun j b => ?_) _ _
  unfold step3
  rw [store_off b _ v (k0_pay7 mm 0#1 (pos j) (words hv n j)) _ (fun x => off' _ _),
    store_off b _ v (k0_pay4 mm 0#1 (words hv n j)) _ (fun x => off _),
    store_off b _ v (k0_pay11 mm 0#1 (pos j) (words hv n j)) _ (fun x => off' _ _)]

/-! ## Chunks, and what the buffers hold -/

theorem one_f32 : Ideal.ofBits .f32 0x3F800000#32 = ((1 : ℝ) : EReal) := by simp
theorem neg_one_f32 : Ideal.ofBits .f32 0xBF800000#32 = ((-1 : ℝ) : EReal) := by
  simp [Ideal.ofBits, Ideal.ieee, -EReal.coe_mul]; norm_num

/-- What the lanes of pass `q` add: minus one in the first pass, one in the second. -/
theorem unit_at (q : Fin k0_t3_loop.trips) (x : S16.Idx) :
    k0_pay12 (F := Ideal) q x = ((if q.val = 0 then -1 else 1 : ℝ) : EReal) := by
  have hq : q.val < 2 := lt_of_lt_of_le q.isLt (by decide)
  have e : k0_pay12 (F := Ideal) q x
      = Ideal.ofBits .f32 0x3F800000#32 * Scalar.select (Scalar.cmpi .eq (Scf.iv 0#32 1#32 q) 0#32) (Ideal.ofBits .f32 0xBF800000#32)
          (Ideal.ofBits .f32 0x3F800000#32) := rfl
  rw [e, one_f32, neg_one_f32]
  have c : ∀ q : Fin k0_t3_loop.trips, Scalar.cmpi .eq (Scf.iv 0#32 1#32 q) 0#32 = if q.val = 0 then 1#1 else 0#1 := by decide
  rw [c]
  split
  · show ((1 : ℝ) : EReal) * ((-1 : ℝ) : EReal) = _
    rw [← EReal.coe_mul, one_mul]
  · show ((1 : ℝ) : EReal) * ((1 : ℝ) : EReal) = _
    rw [← EReal.coe_mul, one_mul]

theorem base_new : ∀ (c : Fin 2) (t : Fin k0_t2_loop.trips) (q : Fin k0_t3_loop.trips), q.val = 1 →
    Scalar.select (Scalar.cmpi .eq (Scf.iv 0#32 1#32 q) 0#32)
        (Scalar.subi (Scalar.muli (Scalar.addi (Scalar.muli (BitVec.ofNat 32 c.val) 8#32) (cnt t)) 128#32) 256#32)
        (Scalar.muli (Scalar.addi (Scalar.muli (BitVec.ofNat 32 c.val) 8#32) (cnt t)) 128#32)
      = BitVec.ofNat 32 (128 * (8 * c.val + t.val)) := by decide
theorem base_old : ∀ (c : Fin 2) (t : Fin k0_t2_loop.trips) (q : Fin k0_t3_loop.trips), q.val = 0 → 2 ≤ t.val →
    Scalar.select (Scalar.cmpi .eq (Scf.iv 0#32 1#32 q) 0#32)
        (Scalar.subi (Scalar.muli (Scalar.addi (Scalar.muli (BitVec.ofNat 32 c.val) 8#32) (cnt t)) 128#32) 256#32)
        (Scalar.muli (Scalar.addi (Scalar.muli (BitVec.ofNat 32 c.val) 8#32) (cnt t)) 128#32)
      = BitVec.ofNat 32 (128 * (8 * c.val + t.val - 2)) := by decide
theorem on_new : ∀ (t : Fin k0_t2_loop.trips) (q : Fin k0_t3_loop.trips), q.val = 1 → passOn t q = 1#1 := by decide
theorem on_old : ∀ (t : Fin k0_t2_loop.trips) (q : Fin k0_t3_loop.trips), q.val = 0 → passOn t q = if 2 ≤ t.val then 1#1 else 0#1 := by decide

/-- A chunk at one element: its count on, the count of two chunks back off. -/
theorem chunk_at (L : grid0.Coords) (hv : Vec Ideal S512 .i32) (t : ℕ) (ht : t < 8) (b : Vec Ideal S3x128x128 .f32)
    (e : S3x128x128.Idx) (r : ℝ) (hb : b e = (r : EReal)) :
    chunk L hv t b e
      = ((r - (if 2 ≤ t then count hv (8 * (L 0).val + t - 2) (e 0).val (e 1).val (e 2).val else 0)
          + count hv (8 * (L 0).val + t) (e 0).val (e 1).val (e 2).val : ℝ) : EReal) := by
  have hc := L0_lt L
  have q0 : (0 : ℕ) < k0_t3_loop.trips := by decide
  have q1 : (1 : ℕ) < k0_t3_loop.trips := by decide
  have ht' : t < k0_t2_loop.trips := by rw [trips2_eq]; exact ht
  have e1 : chunk L hv t b = pass L hv ⟨t, ht'⟩ ⟨1, q1⟩ (pass L hv ⟨t, ht'⟩ ⟨0, q0⟩ b) := by
    rw [chunk_eq L hv ⟨t, ht'⟩ b]
    unfold chunkK
    exact (congrArg (fun k => iter (pass L hv ⟨t, ht'⟩) k b) trips3).trans
      ((iter_succ (pass L hv ⟨t, ht'⟩) ⟨1, q1⟩ b).trans (congrArg _ (iter_succ (pass L hv ⟨t, ht'⟩) ⟨0, q0⟩ b)))
  have h0 : pass L hv ⟨t, ht'⟩ ⟨0, q0⟩ b e
      = ((r - (if 2 ≤ t then count hv (8 * (L 0).val + t - 2) (e 0).val (e 1).val (e 2).val else 0) : ℝ) : EReal) := by
    unfold pass
    rw [on_old ⟨t, ht'⟩ ⟨0, q0⟩ rfl]
    by_cases h2 : 2 ≤ t
    · rw [show passBase L ⟨t, ht'⟩ ⟨0, q0⟩ = _ from base_old (L 0) ⟨t, ht'⟩ ⟨0, q0⟩ rfl h2, if_pos h2, if_pos h2]
      rw [passN_at hv (8 * (L 0).val + t - 2) (by omega) 1#1 _ b e r (-1) hb (fun x => (unit_at ⟨0, q0⟩ x).trans (by rw [if_pos rfl])),
        if_pos (show (1#1 : BitVec 1) = 1 from rfl)]
      congr 1; ring
    · rw [if_neg h2, if_neg h2, off_at, hb, sub_zero]
  rw [e1]
  unfold pass at h0 ⊢
  rw [on_new ⟨t, ht'⟩ ⟨1, q1⟩ rfl, show passBase L ⟨t, ht'⟩ ⟨1, q1⟩ = _ from base_new (L 0) ⟨t, ht'⟩ ⟨1, q1⟩ rfl]
  rw [passN_at hv (8 * (L 0).val + t) (by omega) 1#1 _ _ e _ 1 h0 (fun x => (unit_at ⟨1, q1⟩ x).trans (by rw [if_neg (show ¬ (1 : ℕ) = 0 by decide)])),
    if_pos (show (1#1 : BitVec 1) = 1 from rfl), one_mul]

/-- What the buffer holds when chunk `t` leaves: the chunk's counts. -/
theorem bufAt_at (L : grid0.Coords) (hv : Vec Ideal S512 .i32) (e : S3x128x128.Idx) : ∀ t, t < 8 →
    bufAt L hv t e = ((count hv (8 * (L 0).val + t) (e 0).val (e 1).val (e 2).val : ℝ) : EReal)
  | 0, h => by
    rw [bufAt, chunk_at L hv 0 h zeros e 0 (by simp [zeros, Scalar.ofBits]), if_neg (by decide)]; simp
  | 1, h => by
    rw [bufAt, chunk_at L hv 1 h zeros e 0 (by simp [zeros, Scalar.ofBits]), if_neg (by decide)]; simp
  | t + 2, h => by
    rw [bufAt, chunk_at L hv (t + 2) h _ e _ (bufAt_at L hv e t (by omega)), if_pos (by omega)]
    rw [show 8 * (L 0).val + (t + 2) - 2 = 8 * (L 0).val + t by omega]
    congr 1; ring

/-- The result at one element: the hash words of batch row `x 0` in bucket `x 1 % 2048` whose position, moved as the
    element's third says, is `x 2`. -/
theorem outOf_at (h : Vec Ideal S8192 .i32) (x : S16x6144x128.Idx) :
    outOf h x = ((∑ n ∈ Finset.range 4, ∑ q ∈ Finset.range 128,
      (if q + 1 = (x 2).val + (x 1).val / 2048 ∧ bkt (rowWords h (x 0)) (4 * q + n) = (x 1).val % 2048 then 1 else 0 : ℝ) : ℝ) : EReal) := by
  unfold outOf
  rw [bufAt_at _ _ _ _ (by omega)]
  unfold count hit
  have e : 128 * (8 * ((x 1).val % 2048 / 1024) + (x 1).val % 1024 / 128) + (x 1).val % 128 = (x 1).val % 2048 := by omega
  show ((∑ n ∈ Finset.range 4, ∑ q ∈ Finset.range 128,
      (if q + 1 = (x 2).val + (x 1).val / 2048 ∧ bkt (rowWords h (x 0)) (4 * q + n)
        = 128 * (8 * ((x 1).val % 2048 / 1024) + (x 1).val % 1024 / 128) + (x 1).val % 128 then 1 else 0 : ℝ) : ℝ) : EReal) = _
  rw [e]

end Cert.Proof.Hist

end
-- ==== Proof.RefValue.lean ====
/-
  The reference's result over the extended reals, element by element: the remainder of a hash word by the number of
  buckets is its low eleven bits; an update of the scatter lands at (its batch row, its sequence position, its word's
  bucket); so the count of a bucket at a position is the number of the position's four words that lie in it, and the
  result lays the counts of the position to the left, of the position itself and of the one to the right side by side.
-/
module

public import proofs.«01_k».proof.Proof.Gen.ReferenceIdeal.Run
public import Idealize.ShloMosaic.PureOps.Ideal.Laws
public import Idealize.ShloMosaic.Lib.IdealHost
public import Idealize.ShloMosaic.Lib.KernelVsHost
public import Idealize.ShloMosaic.Lib.Pipeline.Value
public import Idealize.ShloMosaic.Lib.Routing.OpsPair
public import Idealize.ShloMosaic.Lib.Affine
public import Idealize.ShloMosaic.Lib.Pointwise.Index

@[expose] public section

noncomputable section

namespace Cert.Proof.Ref

open Cert.ReferenceIdeal Cert.ReferenceIdeal.Gen
open Idealize.ShloMosaic

/-! ## One hash word -/

/-- A test's word is 1 exactly when the test holds. -/
theorem slt_zero (r : BitVec 32) : IntOp.cmpi .slt r 0#32 = if r.toInt < 0 then 1#1 else 0#1 := by
  rcases BitVec.eq_zero_or_eq_one (IntOp.cmpi .slt r 0#32) with h | h
  · rw [h, if_neg fun hr => by rw [IntOp.cmpi_slt.2 hr] at h; exact absurd h (by decide)]
  · exact h.trans (if_pos (IntOp.cmpi_slt.1 h)).symm

theorem ne_zero (r : BitVec 32) : IntOp.cmpi .ne r 0#32 = if r = 0#32 then 0#1 else 1#1 := by
  rcases BitVec.eq_zero_or_eq_one (IntOp.cmpi .ne r 0#32) with h | h
  · rw [h, if_pos (by by_contra hr; rw [IntOp.cmpi_ne.2 hr] at h; exact absurd h (by decide))]
  · rw [h, if_neg (IntOp.cmpi_ne.1 h)]

/-- The remainder with the sign of its divisor, on one word: the truncated remainder, with the divisor added where the
    remainder is not zero and its sign is not the divisor's. -/
def remS (w : BitVec 32) : BitVec 32 :=
  Scalar.select (IntOp.andi (IntOp.cmpi .ne (IntOp.cmpi .slt (IntOp.remsi .host w 2048#32) 0#32) (IntOp.cmpi .slt 2048#32 0#32))
      (IntOp.cmpi .ne (IntOp.remsi .host w 2048#32) 0#32))
    (IntOp.addi (IntOp.remsi .host w 2048#32) 2048#32) (IntOp.remsi .host w 2048#32)

/-- The index read off a remainder, on one word: a negative one counts from the end. -/
def wrapS (w : BitVec 32) : BitVec 32 :=
  Scalar.select (IntOp.cmpi .slt (remS w) 0#32) (IntOp.addi (remS w) 2048#32) (remS w)

/-- The low eleven bits of a word, as a number, are its signed value modulo 2048. -/
theorem low_toInt (w : BitVec 32) : (((w &&& 2047#32).toNat : ℕ) : ℤ) = w.toInt % 2048 := by
  have h : (w &&& 2047#32).toNat = w.toNat % 2048 := by
    rw [BitVec.toNat_and]; exact Nat.and_two_pow_sub_one_eq_mod w.toNat 11
  rw [h, BitVec.toInt_eq_toNat_cond]
  have := w.isLt
  split <;> omega

/-- The remainder of a word by 2048 with the divisor's sign is the word's signed value modulo 2048. -/
theorem remS_toInt (w : BitVec 32) : (remS w).toInt = w.toInt % 2048 := by
  unfold remS
  rw [IntOp.remsi_of_pos .host (by decide : 0 < (2048#32 : BitVec 32).toInt)]
  have hr : (w.srem 2048#32).toInt = w.toInt.tmod 2048 := BitVec.toInt_srem w 2048#32
  have hlo : w.toInt.tmod 2048 < 2048 := Int.tmod_lt_of_pos _ (by decide)
  have hge : -2048 < w.toInt.tmod 2048 := by
    rw [Int.tmod_eq_emod]; split <;> omega
  have hdvd : (w.toInt.tmod 2048) % 2048 = w.toInt % 2048 := by
    have := Int.mul_tdiv_add_tmod w.toInt 2048
    omega
  generalize hR : w.srem 2048#32 = r at *
  rw [slt_zero, ne_zero, show IntOp.cmpi .slt (2048#32 : BitVec 32) 0#32 = 0#1 by decide]
  by_cases hz : r.toInt < 0
  · have h0 : r ≠ 0#32 := fun h => by rw [h] at hz; exact absurd hz (by decide)
    rw [if_pos hz, if_neg h0]
    show (r + 2048#32).toInt = _
    rw [BitVec.toInt_add, show (2048#32 : BitVec 32).toInt = 2048 by decide, Int.bmod_def]
    split <;> omega
  · rw [if_neg hz]
    have e : Scalar.select (IntOp.andi (IntOp.cmpi .ne (0#1) (0#1)) (if r = 0#32 then 0#1 else 1#1)) (IntOp.addi r 2048#32) r = r := by
      split <;> rfl
    rw [e, hr]; omega

/-- The index a hash word is counted at is the word's low eleven bits. -/
theorem wrapS_toInt (w : BitVec 32) : (wrapS w).toInt = ((w &&& 2047#32).toNat : ℤ) := by
  have h := remS_toInt w
  unfold wrapS
  rw [slt_zero, if_neg (by omega), low_toInt, ← h]
  rfl

/-! ## The indices the updates are counted at -/

/-- The batch row of every update. -/
def rowIdx : IVec S16x128x4x1 32 :=
  broadcastInDim S16x128x4x1 ![0, 1, 2] bcast_S16x128x4_S16x128x4x1_0_1_2 (broadcastInDim S16x128x4 ![0, 1, 2] bcast_S16x1x1_S16x128x4_0_1_2 (select (cmpi .slt (broadcastInDim S16x1x1 ![0] bcast_S16_S16x1x1_0 (iotaInDim S16 32 0)) (broadcastInDim S16x1x1 ![] bcast_S_S16x1x1 (constantI S_ 32 0#32))) (addi (broadcastInDim S16x1x1 ![0] bcast_S16_S16x1x1_0 (iotaInDim S16 32 0)) (broadcastInDim S16x1x1 ![] bcast_S_S16x1x1 (constantI S_ 32 16#32))) (broadcastInDim S16x1x1 ![0] bcast_S16_S16x1x1_0 (iotaInDim S16 32 0))))

/-- The sequence position of every update. -/
def posIdx : IVec S16x128x4x1 32 :=
  broadcastInDim S16x128x4x1 ![0, 1, 2] bcast_S16x128x4_S16x128x4x1_0_1_2 (broadcastInDim S16x128x4 ![0, 1, 2] bcast_S1x128x1_S16x128x4_0_1_2 (select (cmpi .slt (broadcastInDim S1x128x1 ![1] bcast_S128_S1x128x1_1 (iotaInDim S128 32 0)) (broadcastInDim S1x128x1 ![] bcast_S_S1x128x1 (constantI S_ 32 0#32))) (addi (broadcastInDim S1x128x1 ![1] bcast_S128_S1x128x1_1 (iotaInDim S128 32 0)) (broadcastInDim S1x128x1 ![] bcast_S_S1x128x1 (constantI S_ 32 128#32))) (broadcastInDim S1x128x1 ![1] bcast_S128_S1x128x1_1 (iotaInDim S128 32 0))))

/-- The divisor. -/
def divisor : IVec S_ 32 :=
  select (cmpi .eq (id (constantI S_ 32 2048#32)) (constantI S_ 32 0#32)) (constantI S_ 32 1#32) (id (constantI S_ 32 2048#32))

/-- The truncated remainders of the words. -/
def quo (x : IVec S16x128x4 32) : IVec S16x128x4 32 := Host.remsi x (broadcastInDim S16x128x4 ![] bcast_S_S16x128x4 divisor)

/-- The remainders of the words, with the divisor's sign. -/
def rem (x : IVec S16x128x4 32) : IVec S16x128x4 32 :=
  select (andi (cmpi .ne (cmpi .slt (quo x) (broadcastInDim S16x128x4 ![] bcast_S_S16x128x4 (constantI S_ 32 0#32))) (broadcastInDim S16x128x4 ![] bcast_S_S16x128x4 (cmpi .slt divisor (constantI S_ 32 0#32)))) (cmpi .ne (quo x) (broadcastInDim S16x128x4 ![] bcast_S_S16x128x4 (constantI S_ 32 0#32)))) (addi (quo x) (broadcastInDim S16x128x4 ![] bcast_S_S16x128x4 divisor)) (quo x)

/-- The bucket of every update. -/
def bucketIdx (x : IVec S16x128x4 32) : IVec S16x128x4x1 32 :=
  broadcastInDim S16x128x4x1 ![0, 1, 2] bcast_S16x128x4_S16x128x4x1_0_1_2 (select (cmpi .slt (rem x) (broadcastInDim S16x128x4 ![] bcast_S_S16x128x4 (constantI S_ 32 0#32))) (addi (rem x) (broadcastInDim S16x128x4 ![] bcast_S_S16x128x4 (constantI S_ 32 2048#32))) (rem x))

/-- The three arrays of indices: rows, positions, buckets. -/
abbrev pieces (x : IVec S16x128x4 32) : List ((s : Shape) × (s.Idx → BitVec 32)) :=
  [⟨S16x128x4x1, rowIdx⟩, ⟨S16x128x4x1, posIdx⟩, ⟨S16x128x4x1, bucketIdx x⟩]

/-- The three indices of every update. -/
def allIdx (x : IVec S16x128x4 32) : IVec S16x128x4x3 32 :=
  concatenate S16x128x4x3 3 (pieces x) concatenates_S16x128x4x1_S16x128x4x1_S16x128x4x1_S16x128x4x3_d3

theorem wrap_row : ∀ b : Fin 16, Scalar.select (IntOp.cmpi .slt (BitVec.ofNat 32 b.val) 0#32) (IntOp.addi (BitVec.ofNat 32 b.val) 16#32)
    (BitVec.ofNat 32 b.val) = BitVec.ofNat 32 b.val := by decide

set_option maxRecDepth 4000 in
theorem wrap_pos : ∀ b : Fin 128, Scalar.select (IntOp.cmpi .slt (BitVec.ofNat 32 b.val) 0#32) (IntOp.addi (BitVec.ofNat 32 b.val) 128#32)
    (BitVec.ofNat 32 b.val) = BitVec.ofNat 32 b.val := by decide

theorem toInt_small (n : ℕ) (h : n < 2048) : (BitVec.ofNat 32 n).toInt = (n : ℤ) := by
  rw [BitVec.toInt_eq_toNat_of_lt (by rw [BitVec.toNat_ofNat]; omega), BitVec.toNat_ofNat]
  omega

/-- The batch row of an update, read. -/
theorem rowIdx_at (b : Fin 16) (s : Fin 128) (n : Fin 4) : (rowIdx (ix4 b s n (0 : Fin 1))).toInt = (b.val : ℤ) :=
  (congrArg BitVec.toInt (wrap_row b)).trans (toInt_small _ (by omega))

/-- The sequence position of an update, read. -/
theorem posIdx_at (b : Fin 16) (s : Fin 128) (n : Fin 4) : (posIdx (ix4 b s n (0 : Fin 1))).toInt = (s.val : ℤ) :=
  (congrArg BitVec.toInt (wrap_pos s)).trans (toInt_small _ (by omega))

theorem broadcast_last (y : IVec S16x128x4 32) (b : Fin 16) (s : Fin 128) (n : Fin 4) :
    broadcastInDim S16x128x4x1 ![0, 1, 2] bcast_S16x128x4_S16x128x4x1_0_1_2 y (ix4 b s n (0 : Fin 1)) = y (ix3 b s n) :=
  broadcastInDim_apply _ _ _ _ _ fun a => by match a with | 0 => rfl | 1 => rfl | 2 => rfl

/-- The bucket of an update, read: the low eleven bits of its word. -/
theorem bucketIdx_at (x : IVec S16x128x4 32) (b : Fin 16) (s : Fin 128) (n : Fin 4) :
    (bucketIdx x (ix4 b s n (0 : Fin 1))).toInt = ((x (ix3 b s n) &&& 2047#32).toNat : ℤ) := by
  unfold bucketIdx
  rw [broadcast_last]
  exact wrapS_toInt _

/-- The three indices of an update, read. -/
theorem allIdx_row (x : IVec S16x128x4 32) (b : Fin 16) (s : Fin 128) (n : Fin 4) :
    allIdx x (ix4 b s n (0 : Fin 3)) = rowIdx (ix4 b s n (0 : Fin 1)) :=
  concatenate_apply_piece (t := S16x128x4x3) 3 (pieces x) concatenates_S16x128x4x1_S16x128x4x1_S16x128x4x1_S16x128x4x3_d3 _
    0 (Nat.zero_lt_succ 2) S16x128x4x1 rowIdx rfl rfl 0 rfl _
    (fun a ha => by match a with | 0 => rfl | 1 => rfl | 2 => rfl | 3 => exact absurd rfl ha) rfl

theorem allIdx_pos (x : IVec S16x128x4 32) (b : Fin 16) (s : Fin 128) (n : Fin 4) :
    allIdx x (ix4 b s n (1 : Fin 3)) = posIdx (ix4 b s n (0 : Fin 1)) :=
  concatenate_apply_piece (t := S16x128x4x3) 3 (pieces x) concatenates_S16x128x4x1_S16x128x4x1_S16x128x4x1_S16x128x4x3_d3 _
    1 (Nat.succ_lt_succ (Nat.zero_lt_succ 1)) S16x128x4x1 posIdx rfl rfl 1 rfl _
    (fun a ha => by match a with | 0 => rfl | 1 => rfl | 2 => rfl | 3 => exact absurd rfl ha) rfl

theorem allIdx_bucket (x : IVec S16x128x4 32) (b : Fin 16) (s : Fin 128) (n : Fin 4) :
    allIdx x (ix4 b s n (2 : Fin 3)) = bucketIdx x (ix4 b s n (0 : Fin 1)) :=
  concatenate_apply_piece (t := S16x128x4x3) 3 (pieces x) concatenates_S16x128x4x1_S16x128x4x1_S16x128x4x1_S16x128x4x3_d3 _
    2 (Nat.lt_succ_self 2) S16x128x4x1 (bucketIdx x) rfl rfl 2 rfl _
    (fun a ha => by match a with | 0 => rfl | 1 => rfl | 2 => rfl | 3 => exact absurd rfl ha) rfl

/-! ## Where an update lands -/

/-- The scatter's axes: every axis of an update names one of the words, every axis of the counts is indexed. -/
abbrev dims : ScatterDims S16x128x2048 S16x128x4x3 S16x128x4 := scatter_S16x128x2048_S16x128x4x3_S16x128x4_n_012_012_3

theorem window_zero (j : S16x128x4.Idx) (a : Fin 3) : dims.window j a = 0 := by
  unfold ScatterDims.window
  exact dif_neg (by revert a; decide)

theorem start_at (idx : IVec S16x128x4x3 32) (b : Fin 16) (s : Fin 128) (n : Fin 4) (a : Fin 3) :
    dims.start (ix3 b s n) idx a = (idx (ix4 b s n a)).toInt := by
  have ha : a ∈ dims.scatterDimsToOperandDims := by revert a; decide
  refine (dif_pos ha).trans (congrArg (fun i => (idx i).toInt) (funext fun c => ?_))
  match a, c with
  | 0, 0 => rfl | 0, 1 => rfl | 0, 2 => rfl | 0, 3 => rfl
  | 1, 0 => rfl | 1, 1 => rfl | 1, 2 => rfl | 1, 3 => rfl
  | 2, 0 => rfl | 2, 1 => rfl | 2, 2 => rfl | 2, 3 => rfl

/-- The update of word `n` of position `s'` of row `b'` is counted at row `b`, position `s`, bucket `B` exactly when
    row and position are these and `B` is the word's bucket. -/
theorem lands (x : IVec S16x128x4 32) (b' : Fin 16) (s' : Fin 128) (n : Fin 4) (b : Fin 16) (s : Fin 128) (B : Fin 2048) :
    dims.resultIdx? (ix3 b' s' n) (allIdx x) = some (ix3 b s B) ↔
      b' = b ∧ s' = s ∧ (x (ix3 b' s' n) &&& 2047#32).toNat = B.val := by
  rw [Routing.resultIdx?_eq_some]
  have e : ∀ a : Fin 3, dims.start (ix3 b' s' n) (allIdx x) a + (dims.window (ix3 b' s' n) a : ℤ) = (allIdx x (ix4 b' s' n a)).toInt :=
    fun a => by rw [window_zero, start_at]; exact add_zero _
  have e0 := (e 0).trans ((congrArg BitVec.toInt (allIdx_row x b' s' n)).trans (rowIdx_at b' s' n))
  have e1 := (e 1).trans ((congrArg BitVec.toInt (allIdx_pos x b' s' n)).trans (posIdx_at b' s' n))
  have e2 := (e 2).trans ((congrArg BitVec.toInt (allIdx_bucket x b' s' n)).trans (bucketIdx_at x b' s' n))
  constructor
  · intro h
    have h0 : (b'.val : ℤ) = (b.val : ℤ) := e0.symm.trans (h 0)
    have h1 : (s'.val : ℤ) = (s.val : ℤ) := e1.symm.trans (h 1)
    have h2 : ((x (ix3 b' s' n) &&& 2047#32).toNat : ℤ) = (B.val : ℤ) := e2.symm.trans (h 2)
    exact ⟨Fin.ext (by omega), Fin.ext (by omega), by omega⟩
  · rintro ⟨rfl, rfl, h⟩ a
    match a with
    | 0 => exact e0
    | 1 => exact e1
    | 2 => exact e2.trans (congrArg Nat.cast h)

/-! ## The counts -/

/-- The reference's counts: of every row, position and bucket. -/
def counts (x : IVec S16x128x4 32) : FVec Ideal S16x128x2048 .f32 :=
  Host.scatterAdd dims (broadcastInDim S16x128x2048 ![] bcast_S_S16x128x2048 (constant S_ .f32 0x00000000#32)) (allIdx x)
    (broadcastInDim S16x128x4 ![] bcast_S_S16x128x4 (constant S_ .f32 0x3F800000#32))

theorem ite_coe (p : Prop) [Decidable p] : (if p then (1 : EReal) else 0) = ((if p then 1 else 0 : ℝ) : EReal) := by
  split <;> rfl

/-- The number of the four words of position `s` of row `b` that lie in bucket `B`. -/
def count (x : IVec S16x128x4 32) (b : Fin 16) (s : Fin 128) (B : ℕ) : ℝ :=
  ∑ n : Fin 4, if (x (ix3 b s n) &&& 2047#32).toNat = B then 1 else 0

/-- A count of the reference is the number of the position's words that lie in the bucket. -/
theorem counts_at (x : IVec S16x128x4 32) (b : Fin 16) (s : Fin 128) (B : Fin 2048) :
    counts x (ix3 b s B) = (count x b s B.val : EReal) := by
  have e : counts x (ix3 b s B) = (Ideal.ofBits .f32 0x00000000#32 : EReal)
      + ∑ j ∈ Finset.univ.filter (fun j => dims.resultIdx? j (allIdx x) = some (ix3 b s B)), (Ideal.ofBits .f32 0x3F800000#32 : EReal) := rfl
  rw [e, Ideal.ofBits_zero_f32, Ideal.ofBits_one_f32, zero_add, Finset.sum_filter, sum_idx3]
  simp only [lands]
  rw [Finset.sum_eq_single b (fun b' _ hb => Finset.sum_eq_zero fun s' _ => Finset.sum_eq_zero fun n _ => if_neg fun h => hb h.1)
      (fun h => absurd (Finset.mem_univ b) h),
    Finset.sum_eq_single s (fun s' _ hs => Finset.sum_eq_zero fun n _ => if_neg fun h => hs h.2.1)
      (fun h => absurd (Finset.mem_univ s) h)]
  unfold count
  simp only [true_and, Fin.sum_univ_four, ite_coe, EReal.coe_add]

/-! ## The result -/

/-- The counts with the position last. -/
def laid (x : IVec S16x128x4 32) : FVec Ideal S16x2048x128 .f32 :=
  transpose S16x2048x128 [0, 2, 1] (counts x) transposes_S16x128x2048_S16x2048x128_0_2_1

theorem laid_at (x : IVec S16x128x4 32) (b : Fin 16) (B : Fin 2048) (s : Fin 128) :
    laid x (ix3 b B s) = (count x b s B.val : EReal) :=
  (transpose_apply _ _ _ _ (ix3 b s B) fun a => by match a with | 0 => rfl | 1 => rfl | 2 => rfl).trans (counts_at x b s B)

/-- What stands where no position is. -/
abbrev fill : FVec Ideal S_ .f32 := sitofp .f32 (constantI S_ 32 0#32)

theorem fill_zero (i : S_.Idx) : fill i = (0 : EReal) := by
  show (((0#32 : BitVec 32).toInt : ℝ) : EReal) = 0
  simp

/-- The counts one position to the left. -/
def left (x : IVec S16x128x4 32) : FVec Ideal S16x2048x128 .f32 :=
  pad S16x2048x128 ![0, 0, 1] ![0, 0, 0] ![0, 0, 0] (extractStridedSlice S16x2048x127 ![0, 0, 0] (laid x) slices_S16x2048x128_S16x2048x127_0_0_0) fill pads_S16x2048x127_S16x2048x128_000_000_100 h_S_

/-- The counts at the position. -/
def mid (x : IVec S16x128x4 32) : FVec Ideal S16x2048x128 .f32 :=
  pad S16x2048x128 ![0, 0, 0] ![0, 0, 0] ![0, 0, 0] (laid x) fill pads_S16x2048x128_S16x2048x128_000_000_000 h_S_

/-- The counts one position to the right. -/
def right (x : IVec S16x128x4 32) : FVec Ideal S16x2048x128 .f32 :=
  pad S16x2048x128 ![0, 0, 0] ![0, 0, 1] ![0, 0, 0] (extractStridedSlice S16x2048x127 ![0, 0, 1] (laid x) slices_S16x2048x128_S16x2048x127_0_0_1) fill pads_S16x2048x127_S16x2048x128_000_000_010 h_S_

/-- The count at the position before position `t`, zero where that is none of the 128. -/
def near (x : IVec S16x128x4 32) (b : Fin 16) (B t : ℕ) : ℝ :=
  if h : 1 ≤ t ∧ t ≤ 128 then count x b ⟨t - 1, by omega⟩ B else 0

theorem left_at (x : IVec S16x128x4 32) (b : Fin 16) (B : Fin 2048) (s : Fin 128) :
    left x (ix3 b B s) = (near x b B.val s.val : EReal) := by
  unfold left near
  by_cases h : 1 ≤ s.val
  · rw [dif_pos ⟨h, by omega⟩]
    refine (pad_apply_of_inside _ _ _ _ _ _ _ _ (ix3 b B (⟨s.val - 1, by omega⟩ : Fin 127)) fun a => ?_).trans
      ((extractStridedSlice_apply _ _ _ _ (ix3 b B (⟨s.val - 1, by omega⟩ : Fin 128)) fun a => ?_).trans (laid_at x b B _))
    · match a with
      | 0 => show b.val = 0 + b.val * 1; omega
      | 1 => show B.val = 0 + B.val * 1; omega
      | 2 => show s.val = 1 + (s.val - 1) * 1; omega
    · match a with
      | 0 => show b.val = 0 + b.val; omega
      | 1 => show B.val = 0 + B.val; omega
      | 2 => show s.val - 1 = 0 + (s.val - 1); omega
  · rw [dif_neg fun k => h k.1]
    refine (pad_apply_of_not_inside _ _ _ _ _ _ _ _ 2 fun k => h k.1).trans ?_
    rw [fill_zero]; rfl

theorem mid_at (x : IVec S16x128x4 32) (b : Fin 16) (B : Fin 2048) (s : Fin 128) :
    mid x (ix3 b B s) = (near x b B.val (s.val + 1) : EReal) := by
  unfold mid near
  rw [dif_pos ⟨by omega, by omega⟩]
  refine (pad_apply_of_inside _ _ _ _ _ _ _ _ (ix3 b B s) fun a => ?_).trans (laid_at x b B s)
  match a with
  | 0 => show b.val = 0 + b.val * 1; omega
  | 1 => show B.val = 0 + B.val * 1; omega
  | 2 => show s.val = 0 + s.val * 1; omega

theorem right_at (x : IVec S16x128x4 32) (b : Fin 16) (B : Fin 2048) (s : Fin 128) :
    right x (ix3 b B s) = (near x b B.val (s.val + 2) : EReal) := by
  unfold right near
  by_cases h : s.val < 127
  · rw [dif_pos ⟨by omega, by omega⟩]
    refine (pad_apply_of_inside _ _ _ _ _ _ _ _ (ix3 b B (⟨s.val, h⟩ : Fin 127)) fun a => ?_).trans
      ((extractStridedSlice_apply _ _ _ _ (ix3 b B (⟨s.val + 2 - 1, by omega⟩ : Fin 128)) fun a => ?_).trans (laid_at x b B _))
    · match a with
      | 0 => show b.val = 0 + b.val * 1; omega
      | 1 => show B.val = 0 + B.val * 1; omega
      | 2 => show s.val = 0 + s.val * 1; omega
    · match a with
      | 0 => show b.val = 0 + b.val; omega
      | 1 => show B.val = 0 + B.val; omega
      | 2 => show s.val + 2 - 1 = 1 + s.val; omega
  · rw [dif_neg fun k => h (by omega)]
    refine (pad_apply_of_not_inside _ _ _ _ _ _ _ _ 2 fun k => h ?_).trans ?_
    · have : (s.val - 0) / 1 < 127 := k.2.2
      omega
    · rw [fill_zero]; rfl

/-- The three arrays the result lays side by side. -/
abbrev planes (x : IVec S16x128x4 32) : List ((s : Shape) × (s.Idx → Ideal .f32)) :=
  [⟨S16x2048x128, left x⟩, ⟨S16x2048x128, mid x⟩, ⟨S16x2048x128, right x⟩]

/-- The reference's result as one term of its argument. -/
def result (x : IVec S16x128x4 32) : FVec Ideal S16x6144x128 .f32 :=
  concatenate S16x6144x128 1 (planes x) concatenates_S16x2048x128_S16x2048x128_S16x2048x128_S16x6144x128_d1

/-- **The result, read**: the element of row `b`, line `q` and position `s` is the count of bucket `q % 2048` at the
    position one to the left (first third), at the position (second) or one to the right (third). -/
theorem result_at (x : IVec S16x128x4 32) (b : Fin 16) (q : Fin 6144) (s : Fin 128) :
    result x (ix3 b q s) = (near x b (q.val % 2048) (s.val + q.val / 2048) : EReal) := by
  have hB : q.val % 2048 < 2048 := Nat.mod_lt _ (by decide)
  have hp : q.val / 2048 = 0 ∨ q.val / 2048 = 1 ∨ q.val / 2048 = 2 := by omega
  rcases hp with h | h | h
  · rw [h]
    refine (concatenate_apply_piece (t := S16x6144x128) 1 (planes x) concatenates_S16x2048x128_S16x2048x128_S16x2048x128_S16x6144x128_d1 _
      0 (Nat.zero_lt_succ 2) S16x2048x128 (left x) rfl rfl 0 rfl (ix3 b ⟨q.val % 2048, hB⟩ s)
      (fun a ha => by match a with | 0 => rfl | 1 => exact absurd rfl ha | 2 => rfl) ?_).trans (left_at x b _ s)
    show 0 + q.val % 2048 = q.val; omega
  · rw [h]
    refine (concatenate_apply_piece (t := S16x6144x128) 1 (planes x) concatenates_S16x2048x128_S16x2048x128_S16x2048x128_S16x6144x128_d1 _
      1 (Nat.succ_lt_succ (Nat.zero_lt_succ 1)) S16x2048x128 (mid x) rfl rfl 2048 rfl (ix3 b ⟨q.val % 2048, hB⟩ s)
      (fun a ha => by match a with | 0 => rfl | 1 => exact absurd rfl ha | 2 => rfl) ?_).trans (mid_at x b _ s)
    show 2048 + q.val % 2048 = q.val; omega
  · rw [h]
    refine (concatenate_apply_piece (t := S16x6144x128) 1 (planes x) concatenates_S16x2048x128_S16x2048x128_S16x2048x128_S16x6144x128_d1 _
      2 (Nat.lt_succ_self 2) S16x2048x128 (right x) rfl rfl 4096 rfl (ix3 b ⟨q.val % 2048, hB⟩ s)
      (fun a ha => by match a with | 0 => rfl | 1 => exact absurd rfl ha | 2 => rfl) ?_).trans (right_at x b _ s)
    show 4096 + q.val % 2048 = q.val; omega

set_option maxRecDepth 8192 in
/-- The program's result is that term of its argument. -/
theorem res_eq (m : (ℓ : Loc nD τ sig) → Buf (Elt Ideal) ℓ) (c : Dev nD) :
    (Cert.ReferenceIdeal.Value.res_main_v35 m c : FVec Ideal S16x6144x128 .f32)
      = result (m ((c.tc : Thread nD τ).loc main_arg0) : IVec S16x128x4 32) := rfl

end Cert.Proof.Ref

end
-- ==== Proof.Value.lean ====
/-
  The kernel's result and the reference's are the same array: at every element both are the number of hash words of one
  position that lie in one bucket.
-/
module

public import proofs.«01_k».proof.Proof.Launch
public import proofs.«01_k».proof.Proof.Counts
public import proofs.«01_k».proof.Proof.RefValue

@[expose] public section

noncomputable section

namespace Cert.Proof.Hist

open Cert.KernelIdeal Cert.KernelIdeal.Gen
open Idealize.ShloMosaic

variable (m : (ℓ : Loc nD τ sig) → Buf (Elt Ideal) ℓ) (d : Dev nD)

/-- The hash words as the caller holds them: by batch row, position and number. -/
abbrev arg : IVec S16x128x4 32 := m (aLoc d)

/-- Word `4 * s + n` of a batch row is word `n` of position `s`. -/
theorem bkt_arg (b : Fin 16) (s : Fin 128) (n : Fin 4) :
    bkt (rowWords (hh m d) b) (4 * s.val + n.val) = (arg m d (Idealize.ShloMosaic.ix3 b s n) &&& 2047#32).toNat := by
  have hi : 4 * s.val + n.val < 512 := by omega
  unfold bkt
  rw [dif_pos hi]
  refine congrArg bucket (shapeCast_apply (s := S16x128x4) (t := S8192) _ _ _ (Idealize.ShloMosaic.ix3 b s n) ?_)
  rw [Shape.rowMajor_val_three, Shape.rowMajor_val_one]
  show (b.val * 128 + s.val) * 4 + n.val = 512 * b.val + (4 * s.val + n.val)
  omega

/-- Of a sum over the positions, each of whose terms asks for one position, the one term is left. -/
theorem sum_near (t : ℕ) (C : ℕ → Prop) [DecidablePred C] :
    (∑ q ∈ Finset.range 128, (if q + 1 = t ∧ C q then 1 else 0 : ℝ)) = if (1 ≤ t ∧ t ≤ 128) ∧ C (t - 1) then 1 else 0 := by
  by_cases ht : 1 ≤ t ∧ t ≤ 128
  · rw [Finset.sum_eq_single (t - 1) (fun q _ hq => if_neg fun h => hq (by omega))
      (fun h => absurd (Finset.mem_range.2 (by omega)) h)]
    have e : t - 1 + 1 = t := by omega
    by_cases hc : C (t - 1)
    · rw [if_pos ⟨e, hc⟩, if_pos ⟨ht, hc⟩]
    · rw [if_neg fun h => hc h.2, if_neg fun h => hc h.2]
  · rw [if_neg fun h => ht h.1]
    exact Finset.sum_eq_zero fun q hq => if_neg fun h => ht (by have := Finset.mem_range.1 hq; omega)

/-- The kernel's count at an element is the reference's. -/
theorem count_eq (b : Fin 16) (B t : ℕ) :
    (∑ n ∈ Finset.range 4, ∑ q ∈ Finset.range 128, (if q + 1 = t ∧ bkt (rowWords (hh m d) b) (4 * q + n) = B then 1 else 0 : ℝ))
      = Ref.near (arg m d) b B t := by
  unfold Ref.near
  simp only [sum_near t fun q => bkt (rowWords (hh m d) b) (4 * q + _) = B]
  by_cases ht : 1 ≤ t ∧ t ≤ 128
  · rw [dif_pos ht, Finset.sum_range]
    refine Finset.sum_congr rfl fun n _ => ?_
    have e := bkt_arg m d b ⟨t - 1, by omega⟩ n
    rw [← e]
    by_cases hc : bkt (rowWords (hh m d) b) (4 * (t - 1) + n.val) = B
    · rw [if_pos ⟨ht, hc⟩]; exact (if_pos hc).symm
    · rw [if_neg fun h => hc h.2]; exact (if_neg hc).symm
  · rw [dif_neg ht]
    exact Finset.sum_eq_zero fun n _ => if_neg fun h => ht h.1

/-- **The kernel's result is the reference's** of the same hash words. -/
theorem result_eq : (outOf (hh m d) : Vec Ideal S16x6144x128 .f32) = Ref.result (arg m d) := by
  funext x
  refine (outOf_at (hh m d) x).trans ((congrArg (fun r : ℝ => (r : EReal))
    (count_eq m d (x 0) ((x 1).val % 2048) ((x 2).val + (x 1).val / 2048))).trans ?_)
  refine (Ref.result_at (arg m d) (x 0) (x 1) (x 2)).symm.trans (congrArg (Ref.result (arg m d)) ?_)
  exact ix3_eta x

end Cert.Proof.Hist

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel at bit patterns runs, leaves its argument as it was and every semaphore at zero. -/
theorem frame_Kernel : Cert.quiescent_Kernel (hKernel := Cert.Kernel.Gen.facts) := fun m ρ _ =>
  (θ_run (Cert.KernelIdeal.defs (F := Bits)) _ _).mono (fun _ h => ⟨fun c => (h.1 c).1, h.2⟩) (Hist.run_main (F := Bits) m ρ)

/-- The kernel over the extended reals runs, leaves its argument as it was and every semaphore at zero. -/
theorem frame_KernelIdeal : Cert.quiescent_KernelIdeal (hKernelIdeal := Cert.KernelIdeal.Gen.facts) := fun m ρ _ =>
  (θ_run _ _ _).mono (fun _ h => ⟨fun c => (h.1 c).1, h.2⟩) (Hist.run_main (F := Ideal) m ρ)

/-- The reference runs, leaves its argument as it was and every semaphore at zero. -/
theorem frame_ReferenceIdeal : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (Cert.ReferenceIdeal.Value.run (F := Ideal) m ρ)

/-- Over the extended reals the kernel's result is the reference's. -/
theorem equal : Cert.algebraic_KernelIdeal_ReferenceIdeal (hKernelIdeal := Cert.KernelIdeal.Gen.facts)
    (hReferenceIdeal := Cert.ReferenceIdeal.Gen.facts) := fun m ρ m' ρ' _ h =>
  ⟨fun c => Hist.outOf (Hist.hh m c),
    (θ_run _ _ _).mono (fun _ k c => ⟨(k.1 c).2, (k.1 c).1⟩) (Hist.run_main (F := Ideal) m ρ),
    (θ_run _ _ _).mono (fun _ k c => ⟨(k c).1.trans ((Ref.res_eq m' c).trans
        ((congrArg Ref.result (h c)).trans (Hist.result_eq m c).symm)), (k c).2⟩)
      (Cert.ReferenceIdeal.Value.run (F := Ideal) m' ρ')⟩

/-- Every claim of this certificate. -/
theorem claim : Cert.Claim := ⟨Cert.Kernel.Gen.facts, Cert.KernelIdeal.Gen.facts, Cert.ReferenceIdeal.Gen.facts,
  frame_Kernel, frame_KernelIdeal, frame_ReferenceIdeal, trivial, equal⟩

end Cert.Proof

end
